-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_Quantiser (m : (ℓ : Loc Cert.Quantiser.nD Cert.Quantiser.τ Cert.Quantiser.sig) → Buf (Elt Bits) ℓ) : Prop :=
  True

def Pre_Whole (m : (ℓ : Loc Cert.Whole.nD Cert.Whole.τ Cert.Whole.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_Quantiser [hQuantiser : Cert.Quantiser.Facts] : Prop :=
  ∀ (m : (ℓ : Loc Cert.Quantiser.nD Cert.Quantiser.τ Cert.Quantiser.sig) → Buf (Elt Bits) ℓ) (g : Dev Cert.Quantiser.nD → PrngReg), Pre_Quantiser m →
    θ_run (Cert.Quantiser.defs (F := Bits)) (onTc (τ := Cert.Quantiser.τ) (Cert.Quantiser.main (F := Bits))) ⟨m, fun _ => 0, g⟩ (fun r => (∀ c : Dev Cert.Quantiser.nD,
      r.2.mem ((c.tc : Thread Cert.Quantiser.nD Cert.Quantiser.τ).loc Cert.Quantiser.main_arg0) = m ((c.tc : Thread Cert.Quantiser.nD Cert.Quantiser.τ).loc Cert.Quantiser.main_arg0))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Quant_Quantiser [hQuant : Cert.Quant.Facts] [hQuantiser : Cert.Quantiser.Facts] : Prop :=
  ∀ (m : (ℓ : Loc Cert.Quant.nD Cert.Quant.τ Cert.Quant.sig) → Buf (Elt Bits) ℓ) (g : Dev Cert.Quant.nD → PrngReg)
    (m' : (ℓ : Loc Cert.Quantiser.nD Cert.Quantiser.τ Cert.Quantiser.sig) → Buf (Elt Bits) ℓ) (g' : Dev Cert.Quantiser.nD → PrngReg), Pre_Quant m →
    (∀ c : Dev Cert.Quant.nD,
      m' ((c.tc : Thread Cert.Quantiser.nD Cert.Quantiser.τ).loc Cert.Quantiser.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v1_0)) (v1 : (c : Dev Cert.Quant.nD) → Buf (Elt Bits) ((c.tc : Thread Cert.Quant.nD Cert.Quant.τ).loc Cert.Quant.main_v1_1)) (v2 : (c : Dev Cert.Quant.nD) → Buf (Elt Bits) ((c.tc : Thread Cert.Quant.nD Cert.Quant.τ).loc Cert.Quant.main_v1_2)) (v3 : (c : Dev Cert.Quant.nD) → Buf (Elt Bits) ((c.tc : Thread Cert.Quant.nD Cert.Quant.τ).loc Cert.Quant.main_v1_3)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v1_0) = v0 c
          ∧ r.2.mem ((c.tc : Thread Cert.Quant.nD Cert.Quant.τ).loc Cert.Quant.main_v1_1) = v1 c
          ∧ r.2.mem ((c.tc : Thread Cert.Quant.nD Cert.Quant.τ).loc Cert.Quant.main_v1_2) = v2 c
          ∧ r.2.mem ((c.tc : Thread Cert.Quant.nD Cert.Quant.τ).loc Cert.Quant.main_v1_3) = v3 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.Quantiser.defs (F := Bits)) (onTc (τ := Cert.Quantiser.τ) (Cert.Quantiser.main (F := Bits))) ⟨m', fun _ => 0, g'⟩ (fun r => ∀ c : Dev Cert.Quantiser.nD,
          r.2.mem ((c.tc : Thread Cert.Quantiser.nD Cert.Quantiser.τ).loc Cert.Quantiser.main_v1_0) = v0 c
          ∧ r.2.mem ((c.tc : Thread Cert.Quantiser.nD Cert.Quantiser.τ).loc Cert.Quantiser.main_v1_1) = v1 c
          ∧ r.2.mem ((c.tc : Thread Cert.Quantiser.nD Cert.Quantiser.τ).loc Cert.Quantiser.main_v1_2) = v2 c
          ∧ r.2.mem ((c.tc : Thread Cert.Quantiser.nD Cert.Quantiser.τ).loc Cert.Quantiser.main_v1_3) = v3 c
          ∧ r.2.mem ((c.tc : Thread Cert.Quantiser.nD Cert.Quantiser.τ).loc Cert.Quantiser.main_arg0) = m' ((c.tc : Thread Cert.Quantiser.nD Cert.Quantiser.τ).loc Cert.Quantiser.main_arg0))

def Claim : Prop :=
  ∃ (hKernel : Cert.Kernel.Facts) (hKernelIdeal : Cert.KernelIdeal.Facts) (hReferenceIdeal : Cert.ReferenceIdeal.Facts) (hQuant : Cert.Quant.Facts) (hQuantiser : Cert.Quantiser.Facts) (hWhole : Cert.Whole.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_Quantiser (hQuantiser := hQuantiser)
    ∧ quiescent_Whole (hWhole := hWhole)
    ∧ preserves_Kernel_KernelIdeal
    ∧ algebraic_KernelIdeal_ReferenceIdeal (hKernelIdeal := hKernelIdeal) (hReferenceIdeal := hReferenceIdeal)
    ∧ bitexact_Quant_Quantiser (hQuant := hQuant) (hQuantiser := hQuantiser)
-- ==== Kernel.lean ====
abbrev S3584x4096 : Shape := ⟨2, ![3584, 4096]⟩
abbrev S28x4096 : Shape := ⟨2, ![28, 4096]⟩
abbrev S28672x3584 : Shape := ⟨2, ![28672, 3584]⟩
abbrev S224x28 : Shape := ⟨2, ![224, 28]⟩
abbrev S112x2x28 : Shape := ⟨3, ![112, 2, 28]⟩
abbrev S112x28x2 : Shape := ⟨3, ![112, 28, 2]⟩
abbrev S4096x28672 : Shape := ⟨2, ![4096, 28672]⟩
abbrev S1x28x2 : Shape := ⟨3, ![1, 28, 2]⟩
abbrev S256x3584 : Shape := ⟨2, ![256, 3584]⟩
abbrev S4096x256 : Shape := ⟨2, ![4096, 256]⟩
abbrev S2x28x4096 : Shape := ⟨3, ![2, 28, 4096]⟩
abbrev S1x28x1 : Shape := ⟨3, ![1, 28, 1]⟩
abbrev S28x1 : Shape := ⟨2, ![28, 1]⟩
abbrev S1x28x4096 : Shape := ⟨3, ![1, 28, 4096]⟩
abbrev S128x256 : Shape := ⟨2, ![128, 256]⟩
abbrev S128x128 : Shape := ⟨2, ![128, 128]⟩
abbrev S1x1x256 : Shape := ⟨3, ![1, 1, 256]⟩
abbrev S1x256 : Shape := ⟨2, ![1, 256]⟩
abbrev S256x128 : Shape := ⟨2, ![256, 128]⟩

abbrev nBuf : Space → Nat
  | .hbm => 7
  | .vmem => 9
  | .smem => 0
  | _ => 0

abbrev bufTy : (tb : Table) → Fin (tcTables nBuf tb) → BufTy
  | .hbm, ⟨0, _⟩ => ⟨S3584x4096, .fp8e4m3⟩
  | .hbm, ⟨1, _⟩ => ⟨S28x4096, .f32⟩
  | .hbm, ⟨2, _⟩ => ⟨S28672x3584, .fp8e4m3⟩
  | .hbm, ⟨3, _⟩ => ⟨S224x28, .f32⟩
  | .hbm, ⟨4, _⟩ => ⟨S112x2x28, .f32⟩
  | .hbm, ⟨5, _⟩ => ⟨S112x28x2, .f32⟩
  | .hbm, ⟨6, _⟩ => ⟨S4096x28672, .bf16⟩
  | .local _ .vmem, ⟨0, _⟩ => ⟨S1x28x2, .f32⟩
  | .local _ .vmem, ⟨1, _⟩ => ⟨S1x28x2, .f32⟩
  | .local _ .vmem, ⟨2, _⟩ => ⟨S256x3584, .fp8e4m3⟩
  | .local _ .vmem, ⟨3, _⟩ => ⟨S256x3584, .fp8e4m3⟩
  | .local _ .vmem, ⟨4, _⟩ => ⟨S3584x4096, .fp8e4m3⟩
  | .local _ .vmem, ⟨5, _⟩ => ⟨S28x4096, .f32⟩
  | .local _ .vmem, ⟨6, _⟩ => ⟨S4096x256, .bf16⟩
  | .local _ .vmem, ⟨7, _⟩ => ⟨S4096x256, .bf16⟩
  | .local _ .vmem, ⟨8, _⟩ => ⟨S2x28x4096, .f32⟩
  | _, _ => ⟨S3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![112], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x28x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S3584x4096 : Shape := ⟨2, ![3584, 4096]⟩
abbrev S28x4096 : Shape := ⟨2, ![28, 4096]⟩
abbrev S28672x3584 : Shape := ⟨2, ![28672, 3584]⟩
abbrev S224x28 : Shape := ⟨2, ![224, 28]⟩
abbrev S4096x28672 : Shape := ⟨2, ![4096, 28672]⟩
abbrev S28x128x4096 : Shape := ⟨3, ![28, 128, 4096]⟩
abbrev S28672x28x128 : Shape := ⟨3, ![28672, 28, 128]⟩
abbrev S28x28672x128 : Shape := ⟨3, ![28, 28672, 128]⟩
abbrev S28x4096x128 : Shape := ⟨3, ![28, 4096, 128]⟩
abbrev S28x4096x28672 : Shape := ⟨3, ![28, 4096, 28672]⟩
abbrev S224x1x28 : Shape := ⟨3, ![224, 1, 28]⟩
abbrev S224x128x28 : Shape := ⟨3, ![224, 128, 28]⟩
abbrev S28672x28 : Shape := ⟨2, ![28672, 28]⟩
abbrev S28x28672 : Shape := ⟨2, ![28, 28672]⟩
abbrev S28x4096x1 : Shape := ⟨3, ![28, 4096, 1]⟩
abbrev S28x1x28672 : Shape := ⟨3, ![28, 1, 28672]⟩

abbrev nBuf : Space → Nat
  | .hbm => 5
  | .vmem => 5
  | .smem => 0
  | _ => 0

abbrev bufTy : (tb : Table) → Fin (tcTables nBuf tb) → BufTy
  | .hbm, ⟨0, _⟩ => ⟨S3584x4096, .fp8e4m3⟩
  | .hbm, ⟨1, _⟩ => ⟨S28x4096, .f32⟩
  | .hbm, ⟨2, _⟩ => ⟨S28672x3584, .fp8e4m3⟩
  | .hbm, ⟨3, _⟩ => ⟨S224x28, .f32⟩
  | .hbm, ⟨4, _⟩ => ⟨S4096x28672, .bf16⟩
  | .local _ .vmem, ⟨0, _⟩ => ⟨S3584x4096, .fp8e4m3⟩
  | .local _ .vmem, ⟨1, _⟩ => ⟨S28x4096, .f32⟩
  | .local _ .vmem, ⟨2, _⟩ => ⟨S28672x3584, .fp8e4m3⟩
  | .local _ .vmem, ⟨3, _⟩ => ⟨S224x28, .f32⟩
  | .local _ .vmem, ⟨4, _⟩ => ⟨S4096x28672, .bf16⟩
  | _, _ => ⟨S3584x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3584x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28672x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x28672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Quant.lean ====
abbrev S2x2048x3584 : Shape := ⟨3, ![2, 2048, 3584]⟩
abbrev S4096x3584 : Shape := ⟨2, ![4096, 3584]⟩
abbrev S4096x28 : Shape := ⟨2, ![4096, 28]⟩
abbrev S3584x4096 : Shape := ⟨2, ![3584, 4096]⟩
abbrev S28x4096 : Shape := ⟨2, ![28, 4096]⟩
abbrev S256x3584 : Shape := ⟨2, ![256, 3584]⟩
abbrev S256x28 : Shape := ⟨2, ![256, 28]⟩
abbrev S3584x256 : Shape := ⟨2, ![3584, 256]⟩
abbrev S28x256 : Shape := ⟨2, ![28, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x3584, .bf16⟩
  | .hbm, ⟨1, _⟩ => ⟨S4096x3584, .bf16⟩
  | .hbm, ⟨2, _⟩ => ⟨S4096x3584, .fp8e4m3⟩
  | .hbm, ⟨3, _⟩ => ⟨S4096x28, .f32⟩
  | .hbm, ⟨4, _⟩ => ⟨S3584x4096, .fp8e4m3⟩
  | .hbm, ⟨5, _⟩ => ⟨S28x4096, .f32⟩
  | .local _ .vmem, ⟨0, _⟩ => ⟨S256x3584, .bf16⟩
  | .local _ .vmem, ⟨1, _⟩ => ⟨S256x3584, .bf16⟩
  | .local _ .vmem, ⟨2, _⟩ => ⟨S256x3584, .fp8e4m3⟩
  | .local _ .vmem, ⟨3, _⟩ => ⟨S256x3584, .fp8e4m3⟩
  | .local _ .vmem, ⟨4, _⟩ => ⟨S256x28, .f32⟩
  | .local _ .vmem, ⟨5, _⟩ => ⟨S256x28, .f32⟩
  | .local _ .vmem, ⟨6, _⟩ => ⟨S3584x256, .fp8e4m3⟩
  | .local _ .vmem, ⟨7, _⟩ => ⟨S3584x256, .fp8e4m3⟩
  | .local _ .vmem, ⟨8, _⟩ => ⟨S28x256, .f32⟩
  | .local _ .vmem, ⟨9, _⟩ => ⟨S28x256, .f32⟩
  | _, _ => ⟨S2x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Quantiser.lean ====
abbrev S2x2048x3584 : Shape := ⟨3, ![2, 2048, 3584]⟩
abbrev S4096x3584 : Shape := ⟨2, ![4096, 3584]⟩
abbrev S4096x28 : Shape := ⟨2, ![4096, 28]⟩
abbrev S3584x4096 : Shape := ⟨2, ![3584, 4096]⟩
abbrev S28x4096 : Shape := ⟨2, ![28, 4096]⟩
abbrev S4096x28x128 : Shape := ⟨3, ![4096, 28, 128]⟩
abbrev S4096x28x1 : Shape := ⟨3, ![4096, 28, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x3584, .bf16⟩
  | .hbm, ⟨1, _⟩ => ⟨S4096x3584, .bf16⟩
  | .hbm, ⟨2, _⟩ => ⟨S4096x3584, .fp8e4m3⟩
  | .hbm, ⟨3, _⟩ => ⟨S4096x28, .f32⟩
  | .hbm, ⟨4, _⟩ => ⟨S3584x4096, .fp8e4m3⟩
  | .hbm, ⟨5, _⟩ => ⟨S28x4096, .f32⟩
  | .local _ .vmem, ⟨0, _⟩ => ⟨S4096x3584, .bf16⟩
  | .local _ .vmem, ⟨1, _⟩ => ⟨S4096x3584, .fp8e4m3⟩
  | .local _ .vmem, ⟨2, _⟩ => ⟨S4096x28, .f32⟩
  | .local _ .vmem, ⟨3, _⟩ => ⟨S3584x4096, .fp8e4m3⟩
  | .local _ .vmem, ⟨4, _⟩ => ⟨S28x4096, .f32⟩
  | _, _ => ⟨S2x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Whole.lean ====
abbrev S2x2048x3584 : Shape := ⟨3, ![2, 2048, 3584]⟩
abbrev S28672x3584 : Shape := ⟨2, ![28672, 3584]⟩
abbrev S224x28 : Shape := ⟨2, ![224, 28]⟩
abbrev S4096x3584 : Shape := ⟨2, ![4096, 3584]⟩
abbrev S4096x28 : Shape := ⟨2, ![4096, 28]⟩
abbrev S3584x4096 : Shape := ⟨2, ![3584, 4096]⟩
abbrev S28x4096 : Shape := ⟨2, ![28, 4096]⟩
abbrev S256x3584 : Shape := ⟨2, ![256, 3584]⟩
abbrev S256x28 : Shape := ⟨2, ![256, 28]⟩
abbrev S3584x256 : Shape := ⟨2, ![3584, 256]⟩
abbrev S28x256 : Shape := ⟨2, ![28, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S112x2x28 : Shape := ⟨3, ![112, 2, 28]⟩
abbrev S112x28x2 : Shape := ⟨3, ![112, 28, 2]⟩
abbrev S4096x28672 : Shape := ⟨2, ![4096, 28672]⟩
abbrev S1x28x2 : Shape := ⟨3, ![1, 28, 2]⟩
abbrev S4096x256 : Shape := ⟨2, ![4096, 256]⟩
abbrev S2x28x4096 : Shape := ⟨3, ![2, 28, 4096]⟩
abbrev S1x28x1 : Shape := ⟨3, ![1, 28, 1]⟩
abbrev S28x1 : Shape := ⟨2, ![28, 1]⟩
abbrev S1x28x4096 : Shape := ⟨3, ![1, 28, 4096]⟩
abbrev S128x128 : Shape := ⟨2, ![128, 128]⟩
abbrev S1x1x256 : Shape := ⟨3, ![1, 1, 256]⟩
abbrev S1x256 : Shape := ⟨2, ![1, 256]⟩
abbrev S2x2048x28672 : Shape := ⟨3, ![2, 2048, 28672]⟩
abbrev S2x2048x28 : Shape := ⟨3, ![2, 2048, 28]⟩

abbrev nBuf : Space → Nat
  | .hbm => 14
  | .vmem => 19
  | .smem => 0
  | _ => 0

abbrev bufTy : (tb : Table) → Fin (tcTables nBuf tb) → BufTy
  | .hbm, ⟨0, _⟩ => ⟨S2x2048x3584, .bf16⟩
  | .hbm, ⟨1, _⟩ => ⟨S28672x3584, .fp8e4m3⟩
  | .hbm, ⟨2, _⟩ => ⟨S224x28, .f32⟩
  | .hbm, ⟨3, _⟩ => ⟨S4096x3584, .bf16⟩
  | .hbm, ⟨4, _⟩ => ⟨S4096x3584, .fp8e4m3⟩
  | .hbm, ⟨5, _⟩ => ⟨S4096x28, .f32⟩
  | .hbm, ⟨6, _⟩ => ⟨S3584x4096, .fp8e4m3⟩
  | .hbm, ⟨7, _⟩ => ⟨S28x4096, .f32⟩
  | .hbm, ⟨8, _⟩ => ⟨S112x2x28, .f32⟩
  | .hbm, ⟨9, _⟩ => ⟨S112x28x2, .f32⟩
  | .hbm, ⟨10, _⟩ => ⟨S4096x28672, .bf16⟩
  | .hbm, ⟨11, _⟩ => ⟨S2x2048x28672, .bf16⟩
  | .hbm, ⟨12, _⟩ => ⟨S2x2048x3584, .fp8e4m3⟩
  | .hbm, ⟨13, _⟩ => ⟨S2x2048x28, .f32⟩
  | .local _ .vmem, ⟨0, _⟩ => ⟨S256x3584, .bf16⟩
  | .local _ .vmem, ⟨1, _⟩ => ⟨S256x3584, .bf16⟩
  | .local _ .vmem, ⟨2, _⟩ => ⟨S256x3584, .fp8e4m3⟩
  | .local _ .vmem, ⟨3, _⟩ => ⟨S256x3584, .fp8e4m3⟩
  | .local _ .vmem, ⟨4, _⟩ => ⟨S256x28, .f32⟩
  | .local _ .vmem, ⟨5, _⟩ => ⟨S256x28, .f32⟩
  | .local _ .vmem, ⟨6, _⟩ => ⟨S3584x256, .fp8e4m3⟩
  | .local _ .vmem, ⟨7, _⟩ => ⟨S3584x256, .fp8e4m3⟩
  | .local _ .vmem, ⟨8, _⟩ => ⟨S28x256, .f32⟩
  | .local _ .vmem, ⟨9, _⟩ => ⟨S28x256, .f32⟩
  | .local _ .vmem, ⟨10, _⟩ => ⟨S1x28x2, .f32⟩
  | .local _ .vmem, ⟨11, _⟩ => ⟨S1x28x2, .f32⟩
  | .local _ .vmem, ⟨12, _⟩ => ⟨S256x3584, .fp8e4m3⟩
  | .local _ .vmem, ⟨13, _⟩ => ⟨S256x3584, .fp8e4m3⟩
  | .local _ .vmem, ⟨14, _⟩ => ⟨S3584x4096, .fp8e4m3⟩
  | .local _ .vmem, ⟨15, _⟩ => ⟨S28x4096, .f32⟩
  | .local _ .vmem, ⟨16, _⟩ => ⟨S4096x256, .bf16⟩
  | .local _ .vmem, ⟨17, _⟩ => ⟨S4096x256, .bf16⟩
  | .local _ .vmem, ⟨18, _⟩ => ⟨S2x28x4096, .f32⟩
  | _, _ => ⟨S2x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![112], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x28x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3584 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3584x4096 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S28x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Proof.Tile.lean ====
/-
  ONE OUTPUT TILE of the matmul kernel's body, written once for all 32 of them. The body computes its output block of 4096 tokens
  by 256 columns in tiles of 256 tokens by 128 columns. For tile `(tb, cb)` it walks the 28 groups of the contracted axis: it
  multiplies the group's 128 × 128 weight codes by the group's 128 × 256 activation codes, scales the product by the group's row of
  scales, and adds it to the accumulator. At the end it transposes the accumulator, rounds it to bf16 and stores it. Here are that
  walk (`accTo`), the tile (`tile`), and the list of the 32 stores (`pieces`), which the body's run leaves (`run_pieces`).
-/
module

public import proofs.«01_k».proof.Proof.Gen.KernelIdeal.Value

@[expose] public section

noncomputable section

namespace Cert.Proof.Tile

open Idealize.ShloMosaic Cert.KernelIdeal Cert.KernelIdeal.Gen

variable {F : FTy → Type} [FloatOps F]

/-- One group's step: the product of the group's codes, times the group's row of scales, added to the accumulator. -/
def groupStep (acc : FVec F S128x256 .f32) (w : Vec F S128x128 .fp8e4m3) (x : Vec F S128x256 .fp8e4m3)
    (s : Vec F S1x1x256 .f32) : FVec F S128x256 .f32 :=
  addf acc (mulf (matmul dot_S128x128_S128x256_S128x256_1_0_0_1_n_n none w x (constant S128x256 .f32 0x00000000#32))
    (broadcastTo S128x256 (shapeCast S1x256 s shapeCasts_S1x1x256_S1x256) broadcasts_S1x256_S128x256))

/-- The accumulator after the first `n` groups, from zero; `W`, `X` and `S` give each group's weight codes, activation codes and
    scales. -/
def accTo (W : Fin 28 → Vec F S128x128 .fp8e4m3) (X : Fin 28 → Vec F S128x256 .fp8e4m3) (S : Fin 28 → Vec F S1x1x256 .f32) :
    (n : ℕ) → n ≤ 28 → FVec F S128x256 .f32
  | 0, _ => broadcast S128x256 (Scalar.ofBits .f32 0x00000000#32)
  | n + 1, h => groupStep (accTo W X S n (Nat.le_of_succ_le h)) (W ⟨n, h⟩) (X ⟨n, h⟩) (S ⟨n, h⟩)

/-- The tile: the accumulator after all 28 groups, transposed and rounded to bf16. -/
def tile (W : Fin 28 → Vec F S128x128 .fp8e4m3) (X : Fin 28 → Vec F S128x256 .fp8e4m3) (S : Fin 28 → Vec F S1x1x256 .f32) :
    FVec F S256x128 .bf16 :=
  truncf .bf16 (transpose S256x128 [1, 0] (accTo W X S 28 (Nat.le_refl 28)) transposes_S128x256_p1_0_S256x128) bitsLt_bf16_f32

/-- Group `g`'s weight codes for output columns `128 cb …` of the block. -/
abbrev rW (cb : Fin 2) (g : Fin 28) : Rect S256x3584 :=
  Rect.unit ![cb.val * 128, g.val * 128] S128x128.size (by
    have := cb.isLt; have := g.isLt
    intro a; match a with
    | ⟨0, _⟩ => show cb.val * 128 + 128 ≤ 256; omega
    | ⟨1, _⟩ => show g.val * 128 + 128 ≤ 3584; omega)

/-- Group `g`'s activation codes of tokens `256 tb …`. -/
abbrev rX (tb : Fin 16) (g : Fin 28) : Rect S3584x4096 :=
  Rect.unit ![g.val * 128, tb.val * 256] S128x256.size (by
    have := tb.isLt; have := g.isLt
    intro a; match a with
    | ⟨0, _⟩ => show g.val * 128 + 128 ≤ 3584; omega
    | ⟨1, _⟩ => show tb.val * 256 + 256 ≤ 4096; omega)

/-- Group `g`'s scales of tokens `256 tb …` for output columns `128 cb …`, in the scratch buffer. -/
abbrev rS (tb : Fin 16) (cb : Fin 2) (g : Fin 28) : Rect S2x28x4096 :=
  Rect.unit ![cb.val, g.val, tb.val * 256] S1x1x256.size (by
    have := tb.isLt; have := cb.isLt; have := g.isLt
    intro a; match a with
    | ⟨0, _⟩ => show cb.val + 1 ≤ 2; omega
    | ⟨1, _⟩ => show g.val + 1 ≤ 28; omega
    | ⟨2, _⟩ => show tb.val * 256 + 256 ≤ 4096; omega)

/-- Tile `(tb, cb)` of the output block. -/
abbrev rO (tb : Fin 16) (cb : Fin 2) : Rect S4096x256 :=
  Rect.unit ![tb.val * 256, cb.val * 128] S256x128.size (by
    have := tb.isLt; have := cb.isLt
    intro a; match a with
    | ⟨0, _⟩ => show tb.val * 256 + 256 ≤ 4096; omega
    | ⟨1, _⟩ => show cb.val * 128 + 128 ≤ 256; omega)

section Run

variable (c : Dev nD) (i : grid0.Coords) (arg1 : Memref sig .tc .vmem S1x28x2 .f32) (harg1 : arg1.IsWhole)
  (arg2 : Memref sig .tc .vmem S256x3584 .fp8e4m3) (harg2 : arg2.IsWhole)
  (arg3 : Memref sig .tc .vmem S3584x4096 .fp8e4m3) (harg3 : arg3.IsWhole)
  (arg4 : Memref sig .tc .vmem S28x4096 .f32) (harg4 : arg4.IsWhole)
  (arg5 : Memref sig .tc .vmem S4096x256 .bf16) (harg5 : arg5.IsWhole)
  (arg6 : Memref sig .tc .vmem S2x28x4096 .f32) (harg6 : arg6.IsWhole)
  (x0 : Vec F S1x28x2 .f32) (x1 : Vec F S256x3584 .fp8e4m3) (x2 : Vec F S3584x4096 .fp8e4m3) (x3 : Vec F S28x4096 .f32)

/-- The store of tile `(tb, cb)`. -/
def runPiece (tb : Fin 16) (cb : Fin 2) : View.Piece (Elt F) S4096x256 .bf16 :=
  ⟨rO tb cb, tile (fun g => View.readAt (Elt F) arg2.view (rW cb g).toLoadRect (harg2.unread x1))
    (fun g => View.readAt (Elt F) arg3.view (rX tb g).toLoadRect (harg3.unread x2))
    (fun g => arg6.view.readCov (kernelRun0_A.sl.HS0_2 c arg1 harg1 arg4 harg4 x0 x3) (rS tb cb g).toLoadRect)⟩

/-- What the body's run leaves in the output block: the 32 tiles, the last one stored first. -/
theorem run_pieces : (kernelRun0_A c i arg1 harg1 arg2 harg2 arg3 harg3 arg4 harg4 arg5 harg5 arg6 harg6 x0 x1 x2 x3).1
    = [(15, 1), (15, 0), (14, 1), (14, 0), (13, 1), (13, 0), (12, 1), (12, 0), (11, 1), (11, 0), (10, 1), (10, 0), (9, 1), (9, 0),
       (8, 1), (8, 0), (7, 1), (7, 0), (6, 1), (6, 0), (5, 1), (5, 0), (4, 1), (4, 0), (3, 1), (3, 0), (2, 1), (2, 0), (1, 1),
       (1, 0), (0, 1), (0, 0)].map
        (fun p : Fin 16 × Fin 2 => runPiece c arg1 harg1 arg2 harg2 arg3 harg3 arg4 harg4 arg6 x0 x1 x2 x3 p.1 p.2) := by
  sl_kernel_rfl

end Run

end Cert.Proof.Tile

end
-- ==== Proof.BlockValue.lean ====
/-
  ONE OUTPUT BLOCK of the matmul kernel over the extended reals. An entry of a tile is a sum over the 28 groups of (the sum over the
  group's 128 products) times the group's scale (`tile_apply`). The scale is what the body stored in its scratch buffer, the token's
  scale times the output block's (`scratch_apply`). So the block after the body is one function of the four input blocks
  (`blockVal`, `block_eq`).
-/
module

public import proofs.«01_k».proof.Proof.Tile
public import Idealize.ShloMosaic.Lib.Pointwise

@[expose] public section

noncomputable section

namespace Cert.Proof.BlockValue

open Idealize.ShloMosaic Cert.KernelIdeal Cert.KernelIdeal.Gen Cert.Proof.Tile
open scoped BigOperators

/-! ### A tile -/

section Tile

variable (W : Fin 28 → Vec Ideal S128x128 .fp8e4m3) (X : Fin 28 → Vec Ideal S128x256 .fp8e4m3)
  (S : Fin 28 → Vec Ideal S1x1x256 .f32)

/-- One group's part of an entry of the accumulator. -/
def groupTerm (g : Fin 28) (j : S128x256.Idx) : EReal :=
  (∑ k : Fin 128, W g (ix2 (j 0) k) * X g (ix2 k (j 1))) * S g (ix3 0 0 (j 1))

theorem groupStep_apply (acc : FVec Ideal S128x256 .f32) (g : Fin 28) (j : S128x256.Idx) :
    groupStep (F := Ideal) acc (W g) (X g) (S g) j = acc j + groupTerm W X S g j := by
  unfold groupTerm
  pointwise [groupStep]

theorem accTo_apply : ∀ (n : ℕ) (h : n ≤ 28) (j : S128x256.Idx),
    accTo (F := Ideal) W X S n h j = ∑ g : Fin n, groupTerm W X S (g.castLE h) j
  | 0, _, j => by
    show broadcast S128x256 (Scalar.ofBits .f32 0x00000000#32) j = _
    pointwise; simp
  | n + 1, h, j => by
    show groupStep (F := Ideal) (accTo W X S n (Nat.le_of_succ_le h)) (W ⟨n, h⟩) (X ⟨n, h⟩) (S ⟨n, h⟩) j = _
    rw [groupStep_apply, accTo_apply n, Fin.sum_univ_castSucc]
    rfl

/-- An entry of a tile. -/
theorem tile_apply (y : S256x128.Idx) :
    tile (F := Ideal) W X S y = ∑ g : Fin 28, groupTerm W X S g (ix2 (y 1) (y 0)) := by
  have h := accTo_apply W X S 28 (Nat.le_refl 28) (ix2 (y 1) (y 0))
  unfold tile
  generalize accTo (F := Ideal) W X S 28 (Nat.le_refl 28) = A at h ⊢
  pointwise
  exact h

end Tile

/-! ### The block -/

variable (c : Dev nD) (i : grid0.Coords) (arg1 : Memref sig .tc .vmem S1x28x2 .f32) (harg1 : arg1.IsWhole)
  (arg2 : Memref sig .tc .vmem S256x3584 .fp8e4m3) (harg2 : arg2.IsWhole)
  (arg3 : Memref sig .tc .vmem S3584x4096 .fp8e4m3) (harg3 : arg3.IsWhole)
  (arg4 : Memref sig .tc .vmem S28x4096 .f32) (harg4 : arg4.IsWhole)
  (arg5 : Memref sig .tc .vmem S4096x256 .bf16) (harg5 : arg5.IsWhole)
  (arg6 : Memref sig .tc .vmem S2x28x4096 .f32) (harg6 : arg6.IsWhole)
  (x0 : Vec Ideal S1x28x2 .f32) (x1 : Vec Ideal S256x3584 .fp8e4m3) (x2 : Vec Ideal S3584x4096 .fp8e4m3) (x3 : Vec Ideal S28x4096 .f32)

/-- What the scratch buffer holds: the token's scale of the group times the output block's. -/
def scratchVal (z : S2x28x4096.Idx) : Elt Ideal .f32 :=
  (x3 (ix2 (z 1) (z 2)) : EReal) * x0 (ix3 0 (z 1) (z 0))

/-- Where the store of column block `b`'s scales places its entries. -/
theorem scratch_emb (b : Fin 2) (inb) (x : S1x28x4096.Idx) :
    (Rect.unit (s := S2x28x4096) ![b.val, 0, 0] S1x28x4096.size inb).emb x = ix3 b (x 1) (x 2) := by
  funext a; refine Fin.ext ?_
  rw [Rect.emb_apply]
  match a with
  | ⟨0, _⟩ =>
    show b.val + 1 * (x 0).val = b.val
    have : (x 0).val < 1 := (x 0).isLt
    omega
  | ⟨1, _⟩ => show 0 + 1 * (x 1).val = (x 1).val; omega
  | ⟨2, _⟩ => show 0 + 1 * (x 2).val = (x 2).val; omega

/-- The two stores fill the scratch buffer with the scales. -/
theorem scratch_canon (z : S2x28x4096.Idx) :
    View.canon (kernelRun0_A.sl.HS0_2 (F := Ideal) c arg1 harg1 arg4 harg4 x0 x3) z = scratchVal x0 x3 z := by
  unfold kernelRun0_A.sl.HS0_2
  refine View.canon_apply_of_pieces (scratchVal x0 x3) _ ?_ z (View.cover_of_tiled (s := S2x28x4096) _ S1x28x4096.size (by rfl) z)
  simp only [View.readAt_eq_ld, harg1.read_unread, harg4.read_unread]
  intro p hp x
  simp only [List.mem_cons, List.not_mem_nil, or_false] at hp
  rcases hp with rfl | rfl
  · show k0_pay3 (F := Ideal) _ _ x = scratchVal x0 x3 ((Rect.unit (s := S2x28x4096) ![(1 : Fin 2).val, 0, 0] S1x28x4096.size
      inb_S2x28x4096_S1x28x4096_1_0_0).emb x)
    rw [scratch_emb]
    unfold scratchVal
    pointwise [k0_pay3]
  · show k0_pay2 (F := Ideal) _ _ x = scratchVal x0 x3 ((Rect.unit (s := S2x28x4096) ![(0 : Fin 2).val, 0, 0] S1x28x4096.size
      inb_S2x28x4096_S1x28x4096_0_0_0).emb x)
    rw [scratch_emb]
    unfold scratchVal
    pointwise [k0_pay2]

/-- What a tile's load of the scratch buffer reads. -/
theorem scratch_apply (tb : Fin 16) (cb : Fin 2) (g : Fin 28) (j : S1x1x256.Idx) :
    arg6.view.readCov (kernelRun0_A.sl.HS0_2 (F := Ideal) c arg1 harg1 arg4 harg4 x0 x3) (rS tb cb g).toLoadRect j
      = scratchVal x0 x3 (ix3 cb g ⟨tb.val * 256 + (j 2).val, by have := tb.isLt; have : (j 2).val < 256 := (j 2).isLt; omega⟩) := by
  rw [View.readCov_eq_canon']
  dsimp only
  rw [scratch_canon]
  refine congrArg (scratchVal x0 x3) (funext fun a => Fin.ext ?_)
  rw [LoadRect.idx_apply]
  match a with
  | ⟨0, _⟩ =>
    show cb.val + 1 * (j 0).val = cb.val
    have : (j 0).val < 1 := (j 0).isLt
    omega
  | ⟨1, _⟩ =>
    show g.val + 1 * (j 1).val = g.val
    have : (j 1).val < 1 := (j 1).isLt
    omega
  | ⟨2, _⟩ => show tb.val * 256 + 1 * (j 2).val = tb.val * 256 + (j 2).val; omega

/-- One output entry of a block, over the four input blocks: the sum over the groups of the group's product times the token's scale
    times the output block's. -/
def blockVal (y : S4096x256.Idx) : Elt Ideal .bf16 :=
  (∑ g : Fin 28, (∑ k : Fin 128,
      (x1 (ix2 (y 1) ⟨g.val * 128 + k.val, by have := g.isLt; have := k.isLt; omega⟩) : EReal)
        * x2 (ix2 ⟨g.val * 128 + k.val, by have := g.isLt; have := k.isLt; omega⟩ (y 0)))
    * ((x3 (ix2 g (y 0)) : EReal) * x0 (ix3 0 g ⟨(y 1).val / 128, by have : (y 1).val < 256 := (y 1).isLt; omega⟩)) : EReal)

/-- Where tile `(tb, cb)` places its entries in the block. -/
theorem tile_emb (tb : Fin 16) (cb : Fin 2) (x : S256x128.Idx) : (rO tb cb).emb x
    = ix2 ⟨tb.val * 256 + (x 0).val, by have := tb.isLt; have : (x 0).val < 256 := (x 0).isLt; omega⟩
        ⟨cb.val * 128 + (x 1).val, by have := cb.isLt; have : (x 1).val < 128 := (x 1).isLt; omega⟩ := by
  funext a; refine Fin.ext ?_
  rw [Rect.emb_apply]
  match a with
  | ⟨0, _⟩ => show tb.val * 256 + 1 * (x 0).val = tb.val * 256 + (x 0).val; omega
  | ⟨1, _⟩ => show cb.val * 128 + 1 * (x 1).val = cb.val * 128 + (x 1).val; omega

/-- Each tile stores its part of the block's function. -/
theorem runPiece_apply (tb : Fin 16) (cb : Fin 2) (x : S256x128.Idx) :
    (runPiece (F := Ideal) c arg1 harg1 arg2 harg2 arg3 harg3 arg4 harg4 arg6 x0 x1 x2 x3 tb cb).2 x
      = blockVal x0 x1 x2 x3 ((rO tb cb).emb x) := by
  show tile (F := Ideal) _ _ _ x = _
  rw [tile_apply, tile_emb]
  have hcb : (⟨(cb.val * 128 + (x 1).val) / 128, by have := cb.isLt; have : (x 1).val < 128 := (x 1).isLt; omega⟩ : Fin 2) = cb :=
    Fin.ext (by have : (x 1).val < 128 := (x 1).isLt; show (cb.val * 128 + (x 1).val) / 128 = cb.val; omega)
  unfold groupTerm blockVal
  refine Finset.sum_congr rfl fun g _ => ?_
  simp only [View.readAt_eq_ld, harg2.read_unread, harg3.read_unread]
  rw [scratch_apply]
  unfold scratchVal
  pointwise
  rw [hcb]

/-- What the body leaves in its output block. -/
theorem block_eq : out0_A_4 (F := Ideal) c i arg1 harg1 arg2 harg2 arg3 harg3 arg4 harg4 arg5 harg5 arg6 harg6 x0 x1 x2 x3
    = blockVal x0 x1 x2 x3 := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (blockVal x0 x1 x2 x3) _ ?_ y
    (cover0_A_4 c i arg1 harg1 arg2 harg2 arg3 harg3 arg4 harg4 arg5 harg5 arg6 harg6 x0 x1 x2 x3 y)
  rw [run_pieces]
  intro p hp
  obtain ⟨q, -, rfl⟩ := List.mem_map.mp hp
  exact runPiece_apply c arg1 harg1 arg2 harg2 arg3 harg3 arg4 harg4 arg6 x0 x1 x2 x3 q.1 q.2

end Cert.Proof.BlockValue

end
-- ==== Proof.KernelValue.lean ====
/-
  THE MATMUL KERNEL'S RESULT over the extended reals, as one function of its four arguments (`linVal`): grid point `t` leaves columns
  `256 t …` of it (`flushed_eq`), and the 112 points' blocks fill the array (`run`).
-/
module

public import proofs.«01_k».proof.Proof.BlockValue
public import Idealize.ShloMosaic.Lib.Claim

@[expose] public section

noncomputable section

namespace Cert.Proof.KernelValue

open Idealize.ShloMosaic Idealize.SL.Sem Cert.KernelIdeal Cert.KernelIdeal.Gen Cert.KernelIdeal.Value Cert.Proof.BlockValue
open Idealize.ShloMosaic.TcCoe Idealize.ShloMosaic.Pipeline
open scoped BigOperators

variable (m : (ℓ : Loc nD τ sig) → Buf (Elt Ideal) ℓ) (ρ : Dev nD → PrngReg)

/-- One entry of the result: the sum over the groups of the group's product of codes, times the token's scale times the weight
    block's. -/
def linVal (a0 : Vec Ideal S3584x4096 .fp8e4m3) (a1 : Vec Ideal S28x4096 .f32) (a2 : Vec Ideal S28672x3584 .fp8e4m3)
    (a3 : Vec Ideal S224x28 .f32) (j : S4096x28672.Idx) : Elt Ideal .bf16 :=
  (∑ g : Fin 28, (∑ k : Fin 128,
      (a2 (ix2 (j 1) ⟨g.val * 128 + k.val, by have := g.isLt; have := k.isLt; omega⟩) : EReal)
        * a0 (ix2 ⟨g.val * 128 + k.val, by have := g.isLt; have := k.isLt; omega⟩ (j 0)))
    * ((a1 (ix2 g (j 0)) : EReal) * a3 (ix2 ⟨(j 1).val / 128, by have : (j 1).val < 28672 := (j 1).isLt; omega⟩ g)) : EReal)

/-- The windows' block indices at point `t`. -/
theorem index_eq : ∀ t : Fin cfg0.N, (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val) :=
  (by decide +kernel : ∀ t : Fin grid0.N, _)

theorem lt_N (t : Fin cfg0.N) : t.val < 112 := lt_of_lt_of_eq t.isLt N_0

/-- The host's reshape and transpose of the weights' scales, at an index. -/
theorem scales_apply (a3 : Vec Ideal S224x28 .f32) (t : Fin 112) (g : Fin 28) (cb : Fin 2) :
    transpose S112x28x2 [0, 2, 1] (shapeCast S112x2x28 a3 shapeCasts_S224x28_S112x2x28) transposes_S112x2x28_S112x28x2_0_2_1
        (ix3 t g cb)
      = a3 (ix2 ⟨t.val * 2 + cb.val, by have := t.isLt; have := cb.isLt; omega⟩ g) := by
  pointwise

/-- The weights' scales as the region finds them: two rows of column blocks a step, groups first. -/
theorem V_scales (c : Dev nD) : V m c main_v1 = transpose S112x28x2 [0, 2, 1]
    (shapeCast S112x2x28 (m ((c : Thread nD τ).loc main_arg3)) shapeCasts_S224x28_S112x2x28) transposes_S112x2x28_S112x28x2_0_2_1 := by
  entry_read
  rfl

theorem iblk0_apply (c : Dev nD) (t : Fin cfg0.N) (g : Fin 28) (cb : Fin 2) :
    iblk m c 0 t (ix3 0 g cb) = (m ((c : Thread nD τ).loc main_arg3) : Vec Ideal S224x28 .f32)
      (ix2 ⟨t.val * 2 + cb.val, by have := lt_N t; have := cb.isLt; omega⟩ g) := by
  obtain ⟨⟨e0, e1, e2⟩, -⟩ := index_eq t
  show V m c main_v1 (((cfg0.win 0).blk t).view.emb (ix3 0 g cb)) = _
  rw [V_scales]
  have he : ((cfg0.win 0).blk t).view.emb (ix3 0 g cb) = ix3 (⟨t.val, lt_N t⟩ : Fin 112) g cb := by
    funext a; apply Fin.ext
    match a with
    | ⟨0, _⟩ => show win0_0.index t (0 : Fin 3) * 1 + 1 * 0 = t.val; omega
    | ⟨1, _⟩ => show win0_0.index t (1 : Fin 3) * 28 + 1 * g.val = g.val; omega
    | ⟨2, _⟩ => show win0_0.index t (2 : Fin 3) * 2 + 1 * cb.val = cb.val; omega
  rw [he]
  exact scales_apply _ ⟨t.val, lt_N t⟩ g cb

theorem iblk1_apply (c : Dev nD) (t : Fin cfg0.N) (n : Fin 256) (k : Fin 3584) :
    iblk m c 1 t (ix2 n k) = (m ((c : Thread nD τ).loc main_arg2) : Vec Ideal S28672x3584 .fp8e4m3)
      (ix2 ⟨t.val * 256 + n.val, by have := lt_N t; have := n.isLt; omega⟩ k) := by
  obtain ⟨-, ⟨e0, e1⟩, -⟩ := index_eq t
  show V m c main_arg2 (((cfg0.win 1).blk t).view.emb (ix2 n k)) = _
  rw [V_main_arg2]
  refine congrArg (m ((c : Thread nD τ).loc main_arg2)) (funext fun a => Fin.ext ?_)
  match a with
  | ⟨0, _⟩ => show win0_1.index t (0 : Fin 2) * 256 + 1 * n.val = t.val * 256 + n.val; omega
  | ⟨1, _⟩ => show win0_1.index t (1 : Fin 2) * 3584 + 1 * k.val = k.val; omega

theorem iblk2_apply (c : Dev nD) (t : Fin cfg0.N) (j : S3584x4096.Idx) :
    iblk m c 2 t j = m ((c : Thread nD τ).loc main_arg0) j := by
  obtain ⟨-, -, ⟨e0, e1⟩, -⟩ := index_eq t
  show V m c main_arg0 (((cfg0.win 2).blk t).view.emb j) = _
  rw [V_main_arg0]
  refine congrArg (m ((c : Thread nD τ).loc main_arg0)) (funext fun a => Fin.ext ?_)
  match a with
  | ⟨0, _⟩ => show win0_2.index t (0 : Fin 2) * 3584 + 1 * (j 0).val = (j 0).val; omega
  | ⟨1, _⟩ => show win0_2.index t (1 : Fin 2) * 4096 + 1 * (j 1).val = (j 1).val; omega

theorem iblk3_apply (c : Dev nD) (t : Fin cfg0.N) (j : S28x4096.Idx) :
    iblk m c 3 t j = m ((c : Thread nD τ).loc main_arg1) j := by
  obtain ⟨-, -, -, ⟨e0, e1⟩, -⟩ := index_eq t
  show V m c main_arg1 (((cfg0.win 3).blk t).view.emb j) = _
  rw [V_main_arg1]
  refine congrArg (m ((c : Thread nD τ).loc main_arg1)) (funext fun a => Fin.ext ?_)
  match a with
  | ⟨0, _⟩ => show win0_3.index t (0 : Fin 2) * 28 + 1 * (j 0).val = (j 0).val; omega
  | ⟨1, _⟩ => show win0_3.index t (1 : Fin 2) * 4096 + 1 * (j 1).val = (j 1).val; omega

/-- Where point `t`'s output block lies in the array. -/
theorem emb4 (t : Fin cfg0.N) (y : S4096x256.Idx) : ((cfg0.win 4).blk t).view.emb y
    = ix2 (y 0) ⟨t.val * 256 + (y 1).val, by have := lt_N t; have : (y 1).val < 256 := (y 1).isLt; omega⟩ := by
  obtain ⟨-, -, -, -, ⟨e0, e1⟩⟩ := index_eq t
  funext a; apply Fin.ext
  match a with
  | ⟨0, _⟩ => show win0_4.index t (0 : Fin 2) * 4096 + 1 * (y 0).val = (y 0).val; omega
  | ⟨1, _⟩ => show win0_4.index t (1 : Fin 2) * 256 + 1 * (y 1).val = t.val * 256 + (y 1).val; omega

/-- The result array. -/
abbrev result (c : Dev nD) : Vec Ideal S4096x28672 .bf16 :=
  linVal (m ((c : Thread nD τ).loc main_arg0)) (m ((c : Thread nD τ).loc main_arg1)) (m ((c : Thread nD τ).loc main_arg2))
    (m ((c : Thread nD τ).loc main_arg3))

/-- The body's block at point `t`, at an entry, is the result at the entry's place in the array. -/
theorem block_at (c : Dev nD) (t : Fin cfg0.N) (p : Fin 4096) (q : Fin 256) :
    blockVal (iblk m c 0 t) (iblk m c 1 t) (iblk m c 2 t) (iblk m c 3 t) (ix2 p q)
      = result m c (ix2 p ⟨t.val * 256 + q.val, by have := lt_N t; have := q.isLt; omega⟩) := by
  have hq := q.isLt
  unfold result linVal blockVal
  refine Finset.sum_congr rfl fun g _ => ?_
  refine congrArg₂ (· * ·) (Finset.sum_congr rfl fun k _ => ?_) (congrArg₂ (· * ·) (iblk3_apply m c t _) ?_)
  · exact congrArg₂ (· * ·) (iblk1_apply m c t q _) (iblk2_apply m c t _)
  · refine (iblk0_apply m c t g ⟨q.val / 128, by omega⟩).trans (congrArg (m ((c : Thread nD τ).loc main_arg3)) ?_)
    refine congrArg (fun r => ix2 r g) (Fin.ext ?_)
    show t.val * 2 + q.val / 128 = (t.val * 256 + q.val) / 128
    omega

/-- Point `t` writes back its columns of the result. -/
theorem flushed_eq (c : Dev nD) (t : Fin cfg0.N) :
    (dats m 0 c).flushed 4 t = ((cfg0.win 4).blk t).view.read (Elt Ideal) (result m c) := by
  rw [flushed4_A, block_eq]
  refine funext fun (y : S4096x256.Idx) => ?_
  show blockVal (iblk m c 0 t) (iblk m c 1 t) (iblk m c 2 t) (iblk m c 3 t) y = result m c (((cfg0.win 4).blk t).view.emb y)
  rw [emb4]
  exact (congrArg _ (ValueIdx.eq_ix2 y)).trans (block_at m c t (y 0) (y 1))

/-- Every entry of the array lies in some point's block. -/
theorem covered (i : S4096x28672.Idx) : ∃ t : Fin cfg0.N, (cfg0.win 4).flush t = true ∧ i ∈ ((cfg0.win 4).blk t).view.set := by
  have h1 : (i 1).val < 28672 := (i 1).isLt
  have hN : (i 1).val / 256 < cfg0.N := lt_of_lt_of_eq (by omega : _ < 112) N_0.symm
  refine ⟨⟨(i 1).val / 256, hN⟩, flush0_4 _, ?_⟩
  have h := ((cfg0.win 4).blk ⟨(i 1).val / 256, hN⟩).view.emb_mem_set
    (ix2 (i 0) ⟨(i 1).val % 256, Nat.mod_lt _ (by decide)⟩)
  rw [emb4] at h
  refine (congrArg (· ∈ ((cfg0.win 4).blk ⟨(i 1).val / 256, hN⟩).view.set) (funext fun a => Fin.ext ?_)).mp h
  match a with
  | ⟨0, _⟩ => rfl
  | ⟨1, _⟩ => show (i 1).val / 256 * 256 + (i 1).val % 256 = (i 1).val; omega

/-- The array after the run. -/
theorem final (c : Dev nD) : (dats m 0 c).arrAt 4 cfg0.N = result m c :=
  (dats m 0 c).arrAt_eq_of_cover 4 (result m c) (fun t _ => flushed_eq m c t) covered

/-- The run: the result array is `linVal` of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Proof.KernelValue

end
-- ==== Proof.RefValue.lean ====
/-
  THE REFERENCE'S RESULT over the extended reals, at an index: its one batched product, times the token's scale, times the weight
  block's, summed over the groups.
-/
module

public import proofs.«01_k».proof.Proof.Gen.ReferenceIdeal.Value
public import Idealize.ShloMosaic.Lib.Pointwise

@[expose] public section

noncomputable section

namespace Cert.Proof.RefValue

open Idealize.ShloMosaic Cert.ReferenceIdeal Cert.ReferenceIdeal.Gen
open scoped BigOperators

theorem pay_apply (x : Vec Ideal S3584x4096 .fp8e4m3) (xs : Vec Ideal S28x4096 .f32) (w : Vec Ideal S28672x3584 .fp8e4m3)
    (ws : Vec Ideal S224x28 .f32) (j : S4096x28672.Idx) :
    k0_pay1 (F := Ideal) x w xs ws j = (∑ g : Fin 28, (∑ k : Fin 128,
      (x (ix2 ⟨g.val * 128 + k.val, by have := g.isLt; have := k.isLt; omega⟩ (j 0)) : EReal)
        * w (ix2 (j 1) ⟨g.val * 128 + k.val, by have := g.isLt; have := k.isLt; omega⟩)) * (xs (ix2 g (j 0)) : EReal)
      * ws (ix2 ⟨(j 1).val / 128, by have : (j 1).val < 28672 := (j 1).isLt; omega⟩ g) : EReal) := by
  pointwise [k0_pay1]

end Cert.Proof.RefValue

end
-- ==== Proof.Linear.lean ====
/-
  THE EQUATION: over the extended reals the kernel's result (Proof/KernelValue.lean `linVal`) is the reference's
  (Proof/RefValue.lean). In each group the kernel multiplies the product of codes by the product of the two scales, the reference by
  one scale and then the other: multiplication is associative and commutative, at the infinities too.
-/
module

public import proofs.«01_k».proof.Defs
public import proofs.«01_k».proof.Proof.KernelValue
public import proofs.«01_k».proof.Proof.RefValue

@[expose] public section

noncomputable section

namespace Cert.Proof.Linear

open Idealize.ShloMosaic Idealize.SL.Sem Cert.Proof.KernelValue
open scoped BigOperators

theorem linVal_eq (a0 : Vec Ideal Cert.KernelIdeal.S3584x4096 .fp8e4m3) (a1 : Vec Ideal Cert.KernelIdeal.S28x4096 .f32)
    (a2 : Vec Ideal Cert.KernelIdeal.S28672x3584 .fp8e4m3) (a3 : Vec Ideal Cert.KernelIdeal.S224x28 .f32) :
    Cert.ReferenceIdeal.Gen.k0_pay1 (F := Ideal) a0 a2 a1 a3 = linVal a0 a1 a2 a3 := by
  funext j
  rw [RefValue.pay_apply]
  unfold linVal
  refine Finset.sum_congr rfl fun g _ => ?_
  rw [mul_assoc]
  refine congrArg₂ _ (Finset.sum_congr rfl fun k _ => mul_comm _ _) rfl

/-- `Cert.algebraic_KernelIdeal_ReferenceIdeal`: from equal arguments both run and end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => result m c, KernelValue.run m g, ?_⟩
  refine (θ_run (Cert.ReferenceIdeal.defs (F := Ideal)) _ _).mono (fun r h c => ?_) (Cert.ReferenceIdeal.Value.run (F := Ideal) m' g')
  obtain ⟨hv, hk⟩ := h c
  refine ⟨hv.trans ?_, hk⟩
  obtain ⟨e0, e1, e2, e3⟩ := hargs c
  rw [e0, e1, e2, e3]
  exact linVal_eq _ _ _ _

end Cert.Proof.Linear

end
-- ==== Proof.QuantSpec.lean ====
/-
  THE QUANTISER, as functions that name no program. A row of 3584 activations is cut into 28 groups of 128. A group's largest
  magnitude `a` (`groupMax`) gives the exponent `e` that `frexp` reads of `a / 448`, zero where `a = 0` (`expo`). The group's scale is
  `2 ^ e` and the group is multiplied by `2 ^ (-e)`; both are `ldexp` of one (`pow2`). The scaled entries are clipped to ±448
  (`clipped`) and rounded to fp8. The functions on arrays act entry by entry, so each is one function of an entry
  (`expoOf`, `pow2Of`, `clippedOf`).
-/
module

public import Idealize.ShloMosaic.PureOps.BitExact.Laws
public import Idealize.ShloMosaic.Lib.Pointwise

@[expose] public section

noncomputable section

namespace Cert.Proof.QuantSpec

open Idealize.ShloMosaic

section Elementwise

variable (F : FTy → Type) [BitOps F] {s : Shape}

/-- The word of a float whose exponent field is zero replaced by its sign: what `frexp` and `ldexp` take apart. -/
def flushed (w : IVec s 32) : IVec s 32 :=
  bitcastToInt (F := F) (φ := .f32) (bitcastToFloat .f32
    (select (cmpi .eq (andi w (broadcast s 2139095040#32)) (broadcast s 0#32)) (andi w (broadcast s 2147483648#32)) w))

/-- The exponent field of a float's word. -/
def exponentField (w : IVec s 32) : IVec s 32 := andi (shrui w (broadcast s 23#32)) (broadcast s 255#32)

/-- The exponent of a group's scale from the group's largest magnitude: `frexp`'s of the magnitude times `1 / 448`, and zero for a
    group of zeros. -/
def expo (a : FVec F s .f32) : IVec s 32 :=
  let f := exponentField (flushed F (bitcastToInt (mulf a (broadcast s (Scalar.ofBits (F := F) .f32 0x3B124925#32)))))
  select (cmpf .oeq a (broadcast s (Scalar.ofBits (F := F) .f32 0x00000000#32))) (broadcast s 0#32)
    (select (ori (cmpi .eq f (broadcast s 255#32)) (cmpi .eq f (broadcast s 0#32))) (broadcast s 0#32)
      (subi f (broadcast s 126#32)))

/-- `ldexp 1 e`: the word of one with `e` added to its exponent field. -/
def pow2 (e : IVec s 32) : FVec F s .f32 :=
  let w := flushed F (bitcastToInt (broadcast s (Scalar.ofBits (F := F) .f32 0x3F800000#32)))
  let sign := andi w (broadcast s 2147483648#32)
  let f := exponentField w
  let p := addi f (minsi (maxsi e (broadcast s 4294966784#32)) (broadcast s 512#32))
  bitcastToFloat .f32 (select (cmpi .eq f (broadcast s 255#32)) w (select (cmpi .eq f (broadcast s 0#32)) sign
    (select (cmpi .sle p (broadcast s 0#32)) sign (select (cmpi .sge p (broadcast s 255#32))
      (ori sign (broadcast s 2139095040#32))
      (ori (ori sign (shli p (broadcast s 23#32))) (andi w (broadcast s 8388607#32)))))))

/-- `2 ^ (-e)`. -/
def invPow2 (e : IVec s 32) : FVec F s .f32 := pow2 F (subi (broadcast s 0#32) e)

variable {F}

/-- An entry times the group's inverse scale, clipped to ±448. -/
def clipped (v i : FVec F s .f32) : FVec F s .f32 :=
  minimumf (broadcast s (Scalar.ofBits (F := F) .f32 0x43E00000#32))
    (maximumf (broadcast s (Scalar.ofBits (F := F) .f32 0xC3E00000#32)) (mulf v i))

/-! The same of one entry. -/

/-- The shape of a single number. -/
abbrev S0 : Shape := ⟨0, ![]⟩

def expoOf (a : F .f32) : BitVec 32 := expo F (s := S0) (fun _ => a) fun a => a.elim0
variable (F) in
def pow2Of (e : BitVec 32) : F .f32 := pow2 F (s := S0) (fun _ => e) fun a => a.elim0
variable (F) in
def invPow2Of (e : BitVec 32) : F .f32 := invPow2 F (s := S0) (fun _ => e) fun a => a.elim0
def clippedOf (v i : F .f32) : F .f32 := clipped (s := S0) (fun _ => v) (fun _ => i) fun a => a.elim0

theorem expo_apply (a : FVec F s .f32) (j : s.Idx) : expo F a j = expoOf (a j) := rfl
theorem pow2_apply (e : IVec s 32) (j : s.Idx) : pow2 F e j = pow2Of F (e j) := rfl
theorem invPow2_apply (e : IVec s 32) (j : s.Idx) : invPow2 F e j = invPow2Of F (e j) := rfl
theorem clipped_apply (v i : FVec F s .f32) (j : s.Idx) : clipped v i j = clippedOf (v j) (i j) := rfl

end Elementwise

/-! ### The results of a batch of rows -/

section Rows

variable {R : ℕ} (x : Vec Bits ⟨2, ![R, 3584]⟩ .bf16)

/-- Entry `k` of group `g` of row `n`, widened. -/
def entry (n : Fin R) (g : Fin 28) (k : Fin 128) : Bits .f32 :=
  FloatOps.extf .f32 (by decide : FTy.bits .bf16 < FTy.bits .f32)
    (x (ix2 n ⟨g.val * 128 + k.val, by have := g.isLt; have := k.isLt; omega⟩))

/-- The largest magnitude of group `g` of row `n`. -/
def groupMax (n : Fin R) (g : Fin 28) : Bits .f32 :=
  (Finset.univ : Finset (Fin 128)).fold FloatOps.maximumf (FloatOps.ofBits .f32 0xFF800000#32)
    fun k => FloatOps.absf (entry x n g k)

/-- The scale of group `g` of row `n`. -/
def scaleOf (n : Fin R) (g : Fin 28) : Bits .f32 := pow2Of Bits (expoOf (groupMax x n g))

/-- Entry `d` of row `n`, scaled and clipped, before it is rounded to a code. -/
def scaled (n : Fin R) (d : Fin 3584) : Bits .f32 :=
  clippedOf (FloatOps.extf .f32 (by decide : FTy.bits .bf16 < FTy.bits .f32) (x (ix2 n d)))
    (invPow2Of Bits (expoOf (groupMax x n ⟨d.val / 128, by have := d.isLt; omega⟩)))

/-- The code: rounded to fp8. -/
def codeOf (n : Fin R) (d : Fin 3584) : Bits .fp8e4m3 :=
  FloatOps.truncf .fp8e4m3 (by decide : FTy.bits .fp8e4m3 < FTy.bits .f32) (scaled x n d)

/-- The transposed copy's code: rounded to bf16, then to fp8. -/
def codeTOf (n : Fin R) (d : Fin 3584) : Bits .fp8e4m3 :=
  FloatOps.truncf .fp8e4m3 (by decide : FTy.bits .fp8e4m3 < FTy.bits .bf16)
    (FloatOps.truncf (φ := .f32) .bf16 (by decide : FTy.bits .bf16 < FTy.bits .f32) (scaled x n d))

end Rows

/-! A block of rows has the whole array's results: each reads its own row alone. -/

section Block

variable {R R' : ℕ} (x : Vec Bits ⟨2, ![R, 3584]⟩ .bf16) (y : Vec Bits ⟨2, ![R', 3584]⟩ .bf16) (n : Fin R) (n' : Fin R')
  (h : ∀ d : Fin 3584, x (ix2 n d) = y (ix2 n' d))

include h

theorem groupMax_congr (g : Fin 28) : groupMax x n g = groupMax y n' g := by
  unfold groupMax entry
  simp only [h]

theorem scaleOf_congr (g : Fin 28) : scaleOf x n g = scaleOf y n' g := by
  unfold scaleOf; rw [groupMax_congr x y n n' h]

theorem scaled_congr (d : Fin 3584) : scaled x n d = scaled y n' d := by
  unfold scaled; rw [groupMax_congr x y n n' h, h]

theorem codeOf_congr (d : Fin 3584) : codeOf x n d = codeOf y n' d := by
  unfold codeOf; rw [scaled_congr x y n n' h]

theorem codeTOf_congr (d : Fin 3584) : codeTOf x n d = codeTOf y n' d := by
  unfold codeTOf; rw [scaled_congr x y n n' h]

end Block

end Cert.Proof.QuantSpec

end
-- ==== Proof.QuantBlock.lean ====
/-
  ONE BLOCK of the quantise kernel. The body takes 256 rows and walks their 28 groups: each group's columns are loaded and widened
  (`val`), the groups' largest magnitudes are set side by side (`amax`), and per group the codes and their transposed copy are stored
  (`piece`, `pieceT`). The four output blocks are these pieces (`out1_eq` …), and at an index they are the quantiser's functions of
  the block's rows (Proof/QuantSpec.lean).
-/
module

public import proofs.«01_k».proof.Proof.Gen.Quant.Value
public import proofs.«01_k».proof.Proof.QuantSpec

@[expose] public section

noncomputable section

namespace Cert.Proof.QuantBlock

open Idealize.ShloMosaic Cert.Quant Cert.Quant.Gen Cert.Proof.QuantSpec

/-! ### The pieces -/

section Pieces

variable {F : FTy → Type} [BitOps F]

/-- Group `g`'s columns of the block. -/
abbrev rX (g : Fin 28) : Rect S256x3584 :=
  Rect.unit ![0, g.val * 128] S256x128.size (by
    have := g.isLt
    intro a; match a with
    | ⟨0, _⟩ => show 0 + 256 ≤ 256; omega
    | ⟨1, _⟩ => show g.val * 128 + 128 ≤ 3584; omega)

/-- Group `g`'s rows of the transposed codes. -/
abbrev rT (g : Fin 28) : Rect S3584x256 :=
  Rect.unit ![g.val * 128, 0] S128x256.size (by
    have := g.isLt
    intro a; match a with
    | ⟨0, _⟩ => show g.val * 128 + 128 ≤ 3584; omega
    | ⟨1, _⟩ => show 0 + 256 ≤ 256; omega)

theorem slices (g : Fin 28) : S256x28.Slices ![0, g.val] S256x1 := by
  revert g; decide

theorem columns : Shape.Concatenates (List.replicate 28 S256x1) S256x28 1 := by decide

variable (x0 : Vec F S256x3584 .bf16)

/-- Group `g`'s entries, widened. -/
def val (g : Fin 28) : FVec F S256x128 .f32 :=
  extf .f32 (shapeCast S256x128 (View.ld x0 (rX g)) shapeCasts_S256x128_S256x128) bitsLt_bf16_f32

/-- Group `g`'s largest magnitude of each row, as a column. -/
def amaxCol (g : Fin 28) : FVec F S256x1 .f32 :=
  shapeCast S256x1 (multiReduction .maximumf [1] S256 (absf (val x0 g)) 0xFF800000#32 reduces_S256x128_S256 (.inl rfl) rfl)
    shapeCasts_S256_S256x1

/-- The columns side by side. -/
def amax : FVec F S256x28 .f32 :=
  concatenate S256x28 1 (List.ofFn fun g : Fin 28 => ⟨S256x1, amaxCol x0 g⟩) columns

/-- Group `g`'s entries times the group's column of `i`, clipped. -/
def clip (i : FVec F S256x28 .f32) (g : Fin 28) : FVec F S256x128 .f32 :=
  clipped (val x0 g) (broadcastTo S256x128 (extractStridedSlice S256x1 ![0, g.val] i (slices g)) broadcasts_S256x1_S256x128)

/-- The store of group `g`'s codes. -/
def piece (i : FVec F S256x28 .f32) (g : Fin 28) : View.Piece (Elt F) S256x3584 .fp8e4m3 :=
  ⟨rX g, truncf .fp8e4m3 (clip x0 i g) bitsLt_fp8e4m3_f32⟩

/-- The store of group `g`'s transposed codes. -/
def pieceT (i : FVec F S256x28 .f32) (g : Fin 28) : View.Piece (Elt F) S3584x256 .fp8e4m3 :=
  ⟨rT g, truncf .fp8e4m3 (transpose S128x256 [1, 0] (truncf .bf16 (clip x0 i g) bitsLt_bf16_f32)
    transposes_S256x128_p1_0_S128x256) bitsLt_fp8e4m3_bf16⟩

/-- The groups, the last one first, as the stores are listed. -/
def groups : List (Fin 28) :=
  [27, 26, 25, 24, 23, 22, 21, 20, 19, 18, 17, 16, 15, 14, 13, 12, 11, 10, 9, 8, 7, 6, 5, 4, 3, 2, 1, 0]

theorem amax_eq : k0_pay230 x0 = amax x0 := by
  rfl

theorem scale_eq : k0_pay235 x0 = pow2 F (expo F (k0_pay230 x0)) := by
  rfl

theorem inv_eq : k0_pay244 x0 = invPow2 F (expo F (k0_pay230 x0)) := by
  rfl

theorem out1_eq : out0_1 x0 = View.canon (groups.map (piece x0 (k0_pay244 x0))) := by
  rfl

theorem out2_eq : out0_2 x0 = View.canon [⟨r0_28, k0_pay235 x0⟩] := rfl

theorem out3_eq : out0_3 x0 = View.canon (groups.map (pieceT x0 (k0_pay244 x0))) := by
  rfl

theorem out4_eq : out0_4 x0 = View.canon [⟨r0_29, k0_pay88 (k0_pay235 x0)⟩] := rfl

end Pieces

/-! ### The pieces at an index, at bit patterns -/

section Values

variable (x0 : Vec Bits S256x3584 .bf16)

theorem val_apply (g : Fin 28) (n : Fin 256) (k : Fin 128) : val x0 g (ix2 n k) = entry x0 n g k := by
  have hk := k.isLt; have hg := g.isLt
  unfold val entry
  pointwise

theorem amaxCol_apply (g : Fin 28) (n : Fin 256) : amaxCol x0 g (ix2 n 0) = groupMax x0 n g := by
  have h : ∀ k, val x0 g (ix2 n k) = entry x0 n g k := fun k => val_apply x0 g n k
  unfold amaxCol groupMax
  generalize val x0 g = v at h
  pointwise
  simp only [h]

theorem amax_apply (n : Fin 256) (g : Fin 28) : amax x0 (ix2 n g) = groupMax x0 n g := by
  unfold amax
  refine (concatenate_ofFn_unit_apply (t := S256x28) (s₁ := S256x1) 1 (amaxCol x0) columns rfl rfl (ix2 n g) g rfl (ix2 n 0)
    fun b hb => ?_).trans (amaxCol_apply x0 g n)
  match b with
  | ⟨0, _⟩ => rfl
  | ⟨1, _⟩ => exact absurd rfl hb

theorem pay235_apply (n : Fin 256) (g : Fin 28) : k0_pay235 x0 (ix2 n g) = scaleOf x0 n g := by
  rw [scale_eq, amax_eq, pow2_apply, expo_apply, amax_apply]; rfl

theorem pay244_apply (n : Fin 256) (g : Fin 28) : k0_pay244 x0 (ix2 n g) = invPow2Of Bits (expoOf (groupMax x0 n g)) := by
  rw [inv_eq, amax_eq, invPow2_apply, expo_apply, amax_apply]

theorem clip_apply (g : Fin 28) (n : Fin 256) (k : Fin 128) :
    clip x0 (k0_pay244 x0) g (ix2 n k) = scaled x0 n ⟨g.val * 128 + k.val, by have := g.isLt; have := k.isLt; omega⟩ := by
  have hk := k.isLt; have hg := g.isLt
  unfold clip scaled
  rw [clipped_apply, val_apply]
  refine congrArg₂ _ rfl ?_
  have hi := pay244_apply x0 n g
  generalize k0_pay244 x0 = i at hi ⊢
  have hg' : (⟨(g.val * 128 + k.val) / 128, by omega⟩ : Fin 28) = g := Fin.ext (by show (g.val * 128 + k.val) / 128 = g.val; omega)
  dsimp only
  rw [hg', ← hi]
  pointwise

/-! ### The output blocks -/

/-- The block's codes. -/
def codesVal (y : S256x3584.Idx) : Bits .fp8e4m3 := codeOf x0 (y 0) (y 1)
/-- The block's scales. -/
def scalesVal (y : S256x28.Idx) : Bits .f32 := scaleOf x0 (y 0) (y 1)
/-- The block's transposed codes. -/
def codesTVal (y : S3584x256.Idx) : Bits .fp8e4m3 := codeTOf x0 (y 1) (y 0)
/-- The block's transposed scales. -/
def scalesTVal (y : S28x256.Idx) : Bits .f32 := scaleOf x0 (y 1) (y 0)

theorem rX_emb (g : Fin 28) (n : Fin 256) (k : Fin 128) :
    (rX g).emb (ix2 n k) = ix2 n ⟨g.val * 128 + k.val, by have := g.isLt; have := k.isLt; omega⟩ := by
  funext a; refine Fin.ext ?_
  rw [Rect.emb_apply]
  match a with
  | ⟨0, _⟩ => show 0 + 1 * n.val = n.val; omega
  | ⟨1, _⟩ => show g.val * 128 + 1 * k.val = g.val * 128 + k.val; omega

theorem rT_emb (g : Fin 28) (k : Fin 128) (n : Fin 256) :
    (rT g).emb (ix2 k n) = ix2 ⟨g.val * 128 + k.val, by have := g.isLt; have := k.isLt; omega⟩ n := by
  funext a; refine Fin.ext ?_
  rw [Rect.emb_apply]
  match a with
  | ⟨0, _⟩ => show g.val * 128 + 1 * k.val = g.val * 128 + k.val; omega
  | ⟨1, _⟩ => show 0 + 1 * n.val = n.val; omega

theorem piece_apply (g : Fin 28) (n : Fin 256) (k : Fin 128) :
    (piece x0 (k0_pay244 x0) g).2 (ix2 n k) = codesVal x0 ((rX g).emb (ix2 n k)) := by
  rw [rX_emb]
  exact congrArg (FloatOps.truncf .fp8e4m3 (by decide : FTy.bits .fp8e4m3 < FTy.bits .f32)) (clip_apply x0 g n k)

theorem pieceT_apply (g : Fin 28) (k : Fin 128) (n : Fin 256) :
    (pieceT x0 (k0_pay244 x0) g).2 (ix2 k n) = codesTVal x0 ((rT g).emb (ix2 k n)) := by
  rw [rT_emb]
  have h := clip_apply x0 g n k
  show FloatOps.truncf .fp8e4m3 _ (transpose S128x256 [1, 0] (truncf .bf16 (clip x0 (k0_pay244 x0) g) bitsLt_bf16_f32)
    transposes_S256x128_p1_0_S128x256 (ix2 k n)) = codeTOf x0 n ⟨g.val * 128 + k.val, _⟩
  unfold codeTOf
  rw [← h]
  generalize clip x0 (k0_pay244 x0) g = v
  pointwise

theorem codes_eq : out0_1 x0 = codesVal x0 := by
  rw [out1_eq]
  funext y
  refine View.canon_apply_of_pieces (Val := Elt Bits) (e := .fp8e4m3) (codesVal x0) (groups.map (piece x0 (k0_pay244 x0))) ?_ y
    (View.cover_of_tiled (s := S256x3584) _ S256x128.size (by rfl) y)
  intro p hp
  obtain ⟨g, -, rfl⟩ := List.mem_map.mp hp
  exact fun (x : S256x128.Idx) => (congrArg _ (ValueIdx.eq_ix2 x)).trans
    ((piece_apply x0 g (x 0) (x 1)).trans (congrArg (fun z => codesVal x0 ((rX g).emb z)) (ValueIdx.eq_ix2 x).symm))

theorem codesT_eq : out0_3 x0 = codesTVal x0 := by
  rw [out3_eq]
  funext y
  refine View.canon_apply_of_pieces (Val := Elt Bits) (e := .fp8e4m3) (codesTVal x0) (groups.map (pieceT x0 (k0_pay244 x0))) ?_ y
    (View.cover_of_tiled (s := S3584x256) _ S128x256.size (by rfl) y)
  intro p hp
  obtain ⟨g, -, rfl⟩ := List.mem_map.mp hp
  exact fun (x : S128x256.Idx) => (congrArg _ (ValueIdx.eq_ix2 x)).trans
    ((pieceT_apply x0 g (x 0) (x 1)).trans (congrArg (fun z => codesTVal x0 ((rT g).emb z)) (ValueIdx.eq_ix2 x).symm))

theorem scales_eq : out0_2 x0 = scalesVal x0 := by
  rw [out2_eq]
  refine (View.canon_unit_zero (Val := Elt Bits) (e := .f32) (by decide) inb_S256x28_S256x28_0_0 (k0_pay235 x0)).trans ?_
  exact funext fun (y : S256x28.Idx) => (congrArg (k0_pay235 x0) (ValueIdx.eq_ix2 y)).trans (pay235_apply x0 (y 0) (y 1))

theorem pay88_apply (v : FVec Bits S256x28 .f32) (y : S28x256.Idx) : k0_pay88 v y = v (ix2 (y 1) (y 0)) := by
  pointwise [k0_pay88]

theorem scalesT_eq : out0_4 x0 = scalesTVal x0 := by
  rw [out4_eq]
  refine (View.canon_unit_zero (Val := Elt Bits) (e := .f32) (by decide) inb_S28x256_S28x256_0_0 (k0_pay88 (k0_pay235 x0))).trans ?_
  exact funext fun (y : S28x256.Idx) => (pay88_apply _ y).trans (pay235_apply x0 (y 1) (y 0))

end Values

end Cert.Proof.QuantBlock

end
-- ==== Proof.QuantValue.lean ====
/-
  THE QUANTISE KERNEL'S RESULTS at bit patterns, as functions of its argument's rows: grid point `t` leaves rows `256 t …` of the codes
  and the scales and columns `256 t …` of their transposed copies, and the 16 points' blocks fill the four arrays (`run`).
-/
module

public import proofs.«01_k».proof.Proof.QuantBlock
public import Idealize.ShloMosaic.Lib.Claim

@[expose] public section

noncomputable section

namespace Cert.Proof.QuantValue

open Idealize.ShloMosaic Idealize.SL.Sem Cert.Quant Cert.Quant.Gen Cert.Quant.Value Cert.Proof.QuantSpec
open Idealize.ShloMosaic.TcCoe Idealize.ShloMosaic.Pipeline

variable (m : (ℓ : Loc nD τ sig) → Buf (Elt Bits) ℓ) (ρ : Dev nD → PrngReg)

/-- The argument as 4096 rows. -/
abbrev rows (c : Dev nD) : Vec Bits S4096x3584 .bf16 :=
  shapeCast S4096x3584 (m ((c : Thread nD τ).loc main_arg0) : Vec Bits S2x2048x3584 .bf16) shapeCasts_S2x2048x3584_S4096x3584

theorem V_rows (c : Dev nD) : V m c main_v0 = rows m c := by
  entry_read
  rfl

/-- The windows' block indices at point `t`. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

theorem lt_N (t : Fin cfg0.N) : t.val < 16 := lt_of_lt_of_eq t.isLt (by decide : grid0.N = 16)

/-- Row `n` of point `t`'s block, in the array. -/
abbrev row (t : Fin cfg0.N) (n : Fin 256) : Fin 4096 := ⟨t.val * 256 + n.val, by have := lt_N t; have := n.isLt; omega⟩

theorem iblk_apply (c : Dev nD) (t : Fin cfg0.N) (n : Fin 256) (d : Fin 3584) :
    (iblk m c 0 t : Vec Bits S256x3584 .bf16) (ix2 n d) = rows m c (ix2 (row t n) d) := by
  obtain ⟨⟨e0, e1⟩, -⟩ := index_eq t
  show V m c main_v0 (((cfg0.win 0).blk t).view.emb (ix2 n d)) = _
  rw [V_rows]
  refine congrArg (rows m c) (funext fun a => Fin.ext ?_)
  match a with
  | ⟨0, _⟩ => show win0_0.index t (0 : Fin 2) * 256 + 1 * n.val = t.val * 256 + n.val; omega
  | ⟨1, _⟩ => show win0_0.index t (1 : Fin 2) * 3584 + 1 * d.val = d.val; omega

/-! ### The codes -/

/-- The array of codes. -/
def codesArr (x : Vec Bits S4096x3584 .bf16) (y : S4096x3584.Idx) : Bits .fp8e4m3 := codeOf x (y 0) (y 1)

/-- Where point `t`'s block lies in the array. -/
theorem emb1 (t : Fin cfg0.N) (y : S256x3584.Idx) : ((cfg0.win 1).blk t).view.emb y = ix2 (row t (y 0)) (y 1) := by
  obtain ⟨-, ⟨e0, e1⟩, -⟩ := index_eq t
  funext a; apply Fin.ext
  match a with
  | ⟨0, _⟩ => show win0_1.index t (0 : Fin 2) * 256 + 1 * (y 0).val = t.val * 256 + (y 0).val; omega
  | ⟨1, _⟩ => show win0_1.index t (1 : Fin 2) * 3584 + 1 * (y 1).val = (y 1).val; omega

/-- Point `t` writes back its block of the array. -/
theorem flushed1_eq (c : Dev nD) (t : Fin cfg0.N) :
    (dats m 0 c).flushed 1 t = ((cfg0.win 1).blk t).view.read (Elt Bits) (codesArr (rows m c)) := by
  rw [flushed1, QuantBlock.codes_eq]
  refine funext fun (y : S256x3584.Idx) => ?_
  show codeOf (iblk m c 0 t) (y 0) (y 1) = codesArr (rows m c) (((cfg0.win 1).blk t).view.emb y)
  rw [emb1]
  exact codeOf_congr _ (rows m c) (y 0) (row t (y 0)) (iblk_apply m c t (y 0)) (y 1)

theorem covered1 (i : S4096x3584.Idx) : ∃ t : Fin cfg0.N, (cfg0.win 1).flush t = true ∧ i ∈ ((cfg0.win 1).blk t).view.set := by
  have hi : (i 0).val < 4096 := (i 0).isLt
  have hN : (i 0).val / 256 < cfg0.N := lt_of_lt_of_eq (by omega : _ < 16) (by decide : 16 = grid0.N)
  refine ⟨⟨(i 0).val / 256, hN⟩, flush0_1 _, ?_⟩
  have h := ((cfg0.win 1).blk ⟨(i 0).val / 256, hN⟩).view.emb_mem_set
    (ix2 ⟨(i 0).val % 256, Nat.mod_lt _ (by decide)⟩ (i 1))
  rw [emb1] at h
  refine (congrArg (· ∈ ((cfg0.win 1).blk ⟨(i 0).val / 256, hN⟩).view.set) (funext fun a => Fin.ext ?_)).mp h
  match a with
  | ⟨0, _⟩ => show (i 0).val / 256 * 256 + (i 0).val % 256 = (i 0).val; omega
  | ⟨1, _⟩ => rfl

/-- The array after the run. -/
theorem final1 (c : Dev nD) : (dats m 0 c).arrAt 1 cfg0.N = codesArr (rows m c) :=
  (dats m 0 c).arrAt_eq_of_cover 1 (codesArr (rows m c)) (fun t _ => flushed1_eq m c t) covered1

/-! ### The scales -/

/-- The array of scales. -/
def scalesArr (x : Vec Bits S4096x3584 .bf16) (y : S4096x28.Idx) : Bits .f32 := scaleOf x (y 0) (y 1)

/-- Where point `t`'s block lies in the array. -/
theorem emb2 (t : Fin cfg0.N) (y : S256x28.Idx) : ((cfg0.win 2).blk t).view.emb y = ix2 (row t (y 0)) (y 1) := by
  obtain ⟨-, -, ⟨e0, e1⟩, -⟩ := index_eq t
  funext a; apply Fin.ext
  match a with
  | ⟨0, _⟩ => show win0_2.index t (0 : Fin 2) * 256 + 1 * (y 0).val = t.val * 256 + (y 0).val; omega
  | ⟨1, _⟩ => show win0_2.index t (1 : Fin 2) * 28 + 1 * (y 1).val = (y 1).val; omega

/-- Point `t` writes back its block of the array. -/
theorem flushed2_eq (c : Dev nD) (t : Fin cfg0.N) :
    (dats m 0 c).flushed 2 t = ((cfg0.win 2).blk t).view.read (Elt Bits) (scalesArr (rows m c)) := by
  rw [flushed2, QuantBlock.scales_eq]
  refine funext fun (y : S256x28.Idx) => ?_
  show scaleOf (iblk m c 0 t) (y 0) (y 1) = scalesArr (rows m c) (((cfg0.win 2).blk t).view.emb y)
  rw [emb2]
  exact scaleOf_congr _ (rows m c) (y 0) (row t (y 0)) (iblk_apply m c t (y 0)) (y 1)

theorem covered2 (i : S4096x28.Idx) : ∃ t : Fin cfg0.N, (cfg0.win 2).flush t = true ∧ i ∈ ((cfg0.win 2).blk t).view.set := by
  have hi : (i 0).val < 4096 := (i 0).isLt
  have hN : (i 0).val / 256 < cfg0.N := lt_of_lt_of_eq (by omega : _ < 16) (by decide : 16 = grid0.N)
  refine ⟨⟨(i 0).val / 256, hN⟩, flush0_2 _, ?_⟩
  have h := ((cfg0.win 2).blk ⟨(i 0).val / 256, hN⟩).view.emb_mem_set
    (ix2 ⟨(i 0).val % 256, Nat.mod_lt _ (by decide)⟩ (i 1))
  rw [emb2] at h
  refine (congrArg (· ∈ ((cfg0.win 2).blk ⟨(i 0).val / 256, hN⟩).view.set) (funext fun a => Fin.ext ?_)).mp h
  match a with
  | ⟨0, _⟩ => show (i 0).val / 256 * 256 + (i 0).val % 256 = (i 0).val; omega
  | ⟨1, _⟩ => rfl

/-- The array after the run. -/
theorem final2 (c : Dev nD) : (dats m 0 c).arrAt 2 cfg0.N = scalesArr (rows m c) :=
  (dats m 0 c).arrAt_eq_of_cover 2 (scalesArr (rows m c)) (fun t _ => flushed2_eq m c t) covered2

/-! ### The transposed codes -/

/-- The array of transposed codes. -/
def codesTArr (x : Vec Bits S4096x3584 .bf16) (y : S3584x4096.Idx) : Bits .fp8e4m3 := codeTOf x (y 1) (y 0)

/-- Where point `t`'s block lies in the array. -/
theorem emb3 (t : Fin cfg0.N) (y : S3584x256.Idx) : ((cfg0.win 3).blk t).view.emb y = ix2 (y 0) (row t (y 1)) := by
  obtain ⟨-, -, -, ⟨e0, e1⟩, -⟩ := index_eq t
  funext a; apply Fin.ext
  match a with
  | ⟨0, _⟩ => show win0_3.index t (0 : Fin 2) * 3584 + 1 * (y 0).val = (y 0).val; omega
  | ⟨1, _⟩ => show win0_3.index t (1 : Fin 2) * 256 + 1 * (y 1).val = t.val * 256 + (y 1).val; omega

/-- Point `t` writes back its block of the array. -/
theorem flushed3_eq (c : Dev nD) (t : Fin cfg0.N) :
    (dats m 0 c).flushed 3 t = ((cfg0.win 3).blk t).view.read (Elt Bits) (codesTArr (rows m c)) := by
  rw [flushed3, QuantBlock.codesT_eq]
  refine funext fun (y : S3584x256.Idx) => ?_
  show codeTOf (iblk m c 0 t) (y 1) (y 0) = codesTArr (rows m c) (((cfg0.win 3).blk t).view.emb y)
  rw [emb3]
  exact codeTOf_congr _ (rows m c) (y 1) (row t (y 1)) (iblk_apply m c t (y 1)) (y 0)

theorem covered3 (i : S3584x4096.Idx) : ∃ t : Fin cfg0.N, (cfg0.win 3).flush t = true ∧ i ∈ ((cfg0.win 3).blk t).view.set := by
  have hi : (i 1).val < 4096 := (i 1).isLt
  have hN : (i 1).val / 256 < cfg0.N := lt_of_lt_of_eq (by omega : _ < 16) (by decide : 16 = grid0.N)
  refine ⟨⟨(i 1).val / 256, hN⟩, flush0_3 _, ?_⟩
  have h := ((cfg0.win 3).blk ⟨(i 1).val / 256, hN⟩).view.emb_mem_set
    (ix2 (i 0) ⟨(i 1).val % 256, Nat.mod_lt _ (by decide)⟩)
  rw [emb3] at h
  refine (congrArg (· ∈ ((cfg0.win 3).blk ⟨(i 1).val / 256, hN⟩).view.set) (funext fun a => Fin.ext ?_)).mp h
  match a with
  | ⟨0, _⟩ => rfl
  | ⟨1, _⟩ => show (i 1).val / 256 * 256 + (i 1).val % 256 = (i 1).val; omega

/-- The array after the run. -/
theorem final3 (c : Dev nD) : (dats m 0 c).arrAt 3 cfg0.N = codesTArr (rows m c) :=
  (dats m 0 c).arrAt_eq_of_cover 3 (codesTArr (rows m c)) (fun t _ => flushed3_eq m c t) covered3

/-! ### The transposed scales -/

/-- The array of transposed scales. -/
def scalesTArr (x : Vec Bits S4096x3584 .bf16) (y : S28x4096.Idx) : Bits .f32 := scaleOf x (y 1) (y 0)

/-- Where point `t`'s block lies in the array. -/
theorem emb4 (t : Fin cfg0.N) (y : S28x256.Idx) : ((cfg0.win 4).blk t).view.emb y = ix2 (y 0) (row t (y 1)) := by
  obtain ⟨-, -, -, -, ⟨e0, e1⟩⟩ := index_eq t
  funext a; apply Fin.ext
  match a with
  | ⟨0, _⟩ => show win0_4.index t (0 : Fin 2) * 28 + 1 * (y 0).val = (y 0).val; omega
  | ⟨1, _⟩ => show win0_4.index t (1 : Fin 2) * 256 + 1 * (y 1).val = t.val * 256 + (y 1).val; omega

/-- Point `t` writes back its block of the array. -/
theorem flushed4_eq (c : Dev nD) (t : Fin cfg0.N) :
    (dats m 0 c).flushed 4 t = ((cfg0.win 4).blk t).view.read (Elt Bits) (scalesTArr (rows m c)) := by
  rw [flushed4, QuantBlock.scalesT_eq]
  refine funext fun (y : S28x256.Idx) => ?_
  show scaleOf (iblk m c 0 t) (y 1) (y 0) = scalesTArr (rows m c) (((cfg0.win 4).blk t).view.emb y)
  rw [emb4]
  exact scaleOf_congr _ (rows m c) (y 1) (row t (y 1)) (iblk_apply m c t (y 1)) (y 0)

theorem covered4 (i : S28x4096.Idx) : ∃ t : Fin cfg0.N, (cfg0.win 4).flush t = true ∧ i ∈ ((cfg0.win 4).blk t).view.set := by
  have hi : (i 1).val < 4096 := (i 1).isLt
  have hN : (i 1).val / 256 < cfg0.N := lt_of_lt_of_eq (by omega : _ < 16) (by decide : 16 = grid0.N)
  refine ⟨⟨(i 1).val / 256, hN⟩, flush0_4 _, ?_⟩
  have h := ((cfg0.win 4).blk ⟨(i 1).val / 256, hN⟩).view.emb_mem_set
    (ix2 (i 0) ⟨(i 1).val % 256, Nat.mod_lt _ (by decide)⟩)
  rw [emb4] at h
  refine (congrArg (· ∈ ((cfg0.win 4).blk ⟨(i 1).val / 256, hN⟩).view.set) (funext fun a => Fin.ext ?_)).mp h
  match a with
  | ⟨0, _⟩ => rfl
  | ⟨1, _⟩ => show (i 1).val / 256 * 256 + (i 1).val % 256 = (i 1).val; omega

/-- The array after the run. -/
theorem final4 (c : Dev nD) : (dats m 0 c).arrAt 4 cfg0.N = scalesTArr (rows m c) :=
  (dats m 0 c).arrAt_eq_of_cover 4 (scalesTArr (rows m c)) (fun t _ => flushed4_eq m c t) covered4

/-- The run: the four result arrays are the quantiser's functions of the argument's rows, and the argument ends unchanged. -/
theorem run : θ_run defs (onTc (τ := τ) (main (F := Bits))) ⟨m, fun _ => 0, ρ⟩ fun r => ∀ c : Dev nD,
      r.2.mem ((c : Thread nD τ).loc main_v1_0) = codesArr (rows m c)
      ∧ r.2.mem ((c : Thread nD τ).loc main_v1_1) = scalesArr (rows m c)
      ∧ r.2.mem ((c : Thread nD τ).loc main_v1_2) = codesTArr (rows m c)
      ∧ r.2.mem ((c : Thread nD τ).loc main_v1_3) = scalesTArr (rows m c)
      ∧ r.2.mem ((c : Thread nD τ).loc main_arg0) = m ((c : Thread nD τ).loc main_arg0) :=
  (θ_run defs _ _).mono (fun _ h c => ⟨(h c).1.trans (final1 m c), (h c).2.1.trans (final2 m c), (h c).2.2.1.trans (final3 m c),
    (h c).2.2.2.1.trans (final4 m c), (h c).2.2.2.2⟩) (run_blocks m ρ)

end Cert.Proof.QuantValue

end
-- ==== Proof.QuantiserBlock.lean ====
/-
  THE REFERENCE QUANTISER'S RESULTS at an index: it reads the 4096 rows as 28 groups of 128 each and computes the groups' largest
  magnitudes, scales and codes on whole arrays. At bit patterns its four results are the quantiser's functions of the rows
  (Proof/QuantSpec.lean).
-/
module

public import proofs.«01_k».proof.Proof.Gen.Quantiser.Value
public import proofs.«01_k».proof.Proof.QuantSpec

@[expose] public section

noncomputable section

namespace Cert.Proof.QuantiserBlock

open Idealize.ShloMosaic Cert.Quantiser Cert.Quantiser.Gen Cert.Proof.QuantSpec

section Chain

variable {F : FTy → Type} [BitOps F] (x0 : Vec F S4096x3584 .bf16)

/-- The groups' largest magnitudes. -/
def amax : FVec F S4096x28 .f32 := k0_pay6 (View.ld x0 r0_0)

/-- The scaled and clipped entries, with the groups' inverse scales `i`. -/
def clip (i : FVec F S4096x28 .f32) : FVec F S4096x28x128 .f32 :=
  clipped (k0_pay5 (View.ld x0 r0_0))
    (broadcastTo S4096x28x128 (shapeCast S4096x28x1 i shapeCasts_S4096x28_S4096x28x1) broadcasts_S4096x28x1_S4096x28x128)

theorem scale_eq : k0_pay27 x0 = pow2 F (expo F (amax x0)) := by
  rfl

theorem out1_eq : out0_1 x0 = View.canon [⟨r0_0, shapeCast S4096x3584 (truncf .fp8e4m3 (clip x0 (invPow2 F (expo F (amax x0))))
    bitsLt_fp8e4m3_f32) shapeCasts_S4096x28x128_S4096x3584⟩] := by
  rfl

theorem out2_eq : out0_2 x0 = View.canon [⟨r0_1, k0_pay27 x0⟩] := rfl

theorem out3_eq : out0_3 x0 = View.canon [⟨r0_2, truncf .fp8e4m3 (transpose S3584x4096 [1, 0] (shapeCast S4096x3584
    (truncf .bf16 (clip x0 (invPow2 F (expo F (amax x0)))) bitsLt_bf16_f32) shapeCasts_S4096x28x128_S4096x3584)
    transposes_S4096x3584_p1_0_S3584x4096) bitsLt_fp8e4m3_bf16⟩] := by
  rfl

theorem out4_eq : out0_4 x0 = View.canon [⟨r0_3, k0_pay4 (k0_pay27 x0)⟩] := rfl

end Chain

section Values

variable (x0 : Vec Bits S4096x3584 .bf16)

theorem ld_eq : View.ld x0 r0_0 = x0 := by
  refine funext fun (y : S4096x3584.Idx) => congrArg x0 (funext fun a => Fin.ext ?_)
  match a with
  | ⟨0, _⟩ => show 0 + 1 * (y 0).val = (y 0).val; omega
  | ⟨1, _⟩ => show 0 + 1 * (y 1).val = (y 1).val; omega

theorem val_apply (x : Vec Bits S4096x3584 .bf16) (n : Fin 4096) (g : Fin 28) (k : Fin 128) :
    k0_pay5 x (ix3 n g k) = entry x n g k := by
  have hn := n.isLt; have hk := k.isLt; have hg := g.isLt
  unfold entry
  pointwise [k0_pay5]

theorem amax_apply (n : Fin 4096) (g : Fin 28) : amax x0 (ix2 n g) = groupMax x0 n g := by
  unfold amax k0_pay6 groupMax
  rw [ld_eq]
  have h : ∀ k, k0_pay5 x0 (ix3 n g k) = entry x0 n g k := fun k => val_apply x0 n g k
  generalize k0_pay5 x0 = v at h
  pointwise
  simp only [h]

theorem scale_apply (n : Fin 4096) (g : Fin 28) : k0_pay27 x0 (ix2 n g) = scaleOf x0 n g := by
  rw [scale_eq, pow2_apply, expo_apply, amax_apply]; rfl

theorem clip_apply (n : Fin 4096) (g : Fin 28) (k : Fin 128) :
    clip x0 (invPow2 Bits (expo Bits (amax x0))) (ix3 n g k)
      = scaled x0 n ⟨g.val * 128 + k.val, by have := g.isLt; have := k.isLt; omega⟩ := by
  have hk := k.isLt; have hg := g.isLt; have hn := n.isLt
  unfold clip scaled
  rw [clipped_apply, ld_eq, val_apply]
  refine congrArg₂ _ rfl ?_
  have hi : invPow2 Bits (expo Bits (amax x0)) (ix2 n g) = invPow2Of Bits (expoOf (groupMax x0 n g)) := by
    rw [invPow2_apply, expo_apply, amax_apply]
  generalize invPow2 Bits (expo Bits (amax x0)) = i at hi ⊢
  have hg' : (⟨(g.val * 128 + k.val) / 128, by omega⟩ : Fin 28) = g := Fin.ext (by show (g.val * 128 + k.val) / 128 = g.val; omega)
  dsimp only
  rw [hg', ← hi]
  pointwise

/-- An array of groups' entries read as rows. -/
theorem flat_apply {φ : FTy} (v : FVec Bits S4096x28x128 φ) (n : Fin 4096) (d : Fin 3584) :
    shapeCast S4096x3584 v shapeCasts_S4096x28x128_S4096x3584 (ix2 n d)
      = v (ix3 n ⟨d.val / 128, by have := d.isLt; omega⟩ ⟨d.val % 128, Nat.mod_lt _ (by decide)⟩) := by
  have hd := d.isLt; have hn := n.isLt
  pointwise

theorem clip_flat (n : Fin 4096) (d : Fin 3584) :
    clip x0 (invPow2 Bits (expo Bits (amax x0))) (ix3 n ⟨d.val / 128, by have := d.isLt; omega⟩ ⟨d.val % 128, Nat.mod_lt _ (by decide)⟩)
      = scaled x0 n d := by
  rw [clip_apply]
  exact congrArg (scaled x0 n) (Fin.ext (by show d.val / 128 * 128 + d.val % 128 = d.val; omega))

/-- The codes. -/
theorem codes_eq : out0_1 x0 = fun y : S4096x3584.Idx => codeOf x0 (y 0) (y 1) := by
  rw [out1_eq]
  refine (View.canon_unit_zero (Val := Elt Bits) (e := .fp8e4m3) (by decide) inb_S4096x3584_S4096x3584_0_0 _).trans ?_
  refine funext fun (y : S4096x3584.Idx) => (congrArg _ (ValueIdx.eq_ix2 y)).trans ((flat_apply _ (y 0) (y 1)).trans ?_)
  exact congrArg (FloatOps.truncf .fp8e4m3 (by decide : FTy.bits .fp8e4m3 < FTy.bits .f32)) (clip_flat x0 (y 0) (y 1))

/-- The scales. -/
theorem scales_eq : out0_2 x0 = fun y : S4096x28.Idx => scaleOf x0 (y 0) (y 1) := by
  rw [out2_eq]
  refine (View.canon_unit_zero (Val := Elt Bits) (e := .f32) (by decide) inb_S4096x28_S4096x28_0_0 (k0_pay27 x0)).trans ?_
  exact funext fun (y : S4096x28.Idx) => (congrArg (k0_pay27 x0) (ValueIdx.eq_ix2 y)).trans (scale_apply x0 (y 0) (y 1))

theorem transpose_apply {φ : FTy} (v : FVec Bits S4096x3584 φ) (d : Fin 3584) (n : Fin 4096) :
    transpose S3584x4096 [1, 0] v transposes_S4096x3584_p1_0_S3584x4096 (ix2 d n) = v (ix2 n d) := by
  pointwise

/-- The transposed codes. -/
theorem codesT_eq : out0_3 x0 = fun y : S3584x4096.Idx => codeTOf x0 (y 1) (y 0) := by
  rw [out3_eq]
  refine (View.canon_unit_zero (Val := Elt Bits) (e := .fp8e4m3) (by decide) inb_S3584x4096_S3584x4096_0_0 _).trans ?_
  refine funext fun (y : S3584x4096.Idx) => (congrArg _ (ValueIdx.eq_ix2 y)).trans ?_
  refine congrArg (FloatOps.truncf .fp8e4m3 (by decide : FTy.bits .fp8e4m3 < FTy.bits .bf16)) ?_
  refine (transpose_apply _ (y 0) (y 1)).trans ((flat_apply _ (y 1) (y 0)).trans ?_)
  exact congrArg (FloatOps.truncf (φ := .f32) .bf16 (by decide : FTy.bits .bf16 < FTy.bits .f32)) (clip_flat x0 (y 1) (y 0))

theorem pay4_apply (v : FVec Bits S4096x28 .f32) (y : S28x4096.Idx) : k0_pay4 v y = v (ix2 (y 1) (y 0)) := by
  pointwise [k0_pay4]

/-- The transposed scales. -/
theorem scalesT_eq : out0_4 x0 = fun y : S28x4096.Idx => scaleOf x0 (y 1) (y 0) := by
  rw [out4_eq]
  refine (View.canon_unit_zero (Val := Elt Bits) (e := .f32) (by decide) inb_S28x4096_S28x4096_0_0 (k0_pay4 (k0_pay27 x0))).trans ?_
  exact funext fun (y : S28x4096.Idx) => (pay4_apply _ y).trans (scale_apply x0 (y 1) (y 0))

end Values

end Cert.Proof.QuantiserBlock

end
-- ==== Proof.QuantiserValue.lean ====
/-
  THE REFERENCE QUANTISER'S RUN at bit patterns: its one grid point's blocks are the whole arrays, so its four results are the
  quantiser's functions of its argument's rows (`run`).
-/
module

public import proofs.«01_k».proof.Proof.QuantiserBlock
public import Idealize.ShloMosaic.Lib.Claim

@[expose] public section

noncomputable section

namespace Cert.Proof.QuantiserValue

open Idealize.ShloMosaic Idealize.SL.Sem Cert.Quantiser Cert.Quantiser.Gen Cert.Quantiser.Value Cert.Proof.QuantSpec
open Idealize.ShloMosaic.TcCoe Idealize.ShloMosaic.Pipeline

variable (m : (ℓ : Loc nD τ sig) → Buf (Elt Bits) ℓ) (ρ : Dev nD → PrngReg)

/-- The argument as 4096 rows. -/
abbrev rows (c : Dev nD) : Vec Bits S4096x3584 .bf16 :=
  shapeCast S4096x3584 (m ((c : Thread nD τ).loc main_arg0) : Vec Bits S2x2048x3584 .bf16) shapeCasts_S2x2048x3584_S4096x3584

theorem V_rows (c : Dev nD) : V m c main_v0 = rows m c := by
  entry_read
  rfl

/-- The windows' block indices at the one point. -/
theorem index_eq : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem iblk_eq (c : Dev nD) (t : Fin cfg0.N) : (iblk m c 0 t : Vec Bits S4096x3584 .bf16) = rows m c := by
  obtain ⟨⟨e0, e1⟩, -⟩ := index_eq t
  refine funext fun (y : S4096x3584.Idx) => ?_
  show V m c main_v0 (((cfg0.win 0).blk t).view.emb y) = _
  rw [V_rows]
  refine congrArg (rows m c) (funext fun a => Fin.ext ?_)
  match a with
  | ⟨0, _⟩ => show win0_0.index t (0 : Fin 2) * 4096 + 1 * (y 0).val = (y 0).val; omega
  | ⟨1, _⟩ => show win0_0.index t (1 : Fin 2) * 3584 + 1 * (y 1).val = (y 1).val; omega

/-! ### The codes -/

theorem emb1 (t : Fin cfg0.N) (y : S4096x3584.Idx) : ((cfg0.win 1).blk t).view.emb y = y := by
  obtain ⟨-, ⟨e0, e1⟩, -⟩ := index_eq t
  funext a; apply Fin.ext
  match a with
  | ⟨0, _⟩ => show win0_1.index t (0 : Fin 2) * 4096 + 1 * (y 0).val = (y 0).val; omega
  | ⟨1, _⟩ => show win0_1.index t (1 : Fin 2) * 3584 + 1 * (y 1).val = (y 1).val; omega

theorem final1 (c : Dev nD) : (dats m 0 c).arrAt 1 cfg0.N = fun y : S4096x3584.Idx => codeOf (rows m c) (y 0) (y 1) := by
  refine (dats m 0 c).arrAt_eq_of_cover 1 (fun y : S4096x3584.Idx => codeOf (rows m c) (y 0) (y 1)) (fun t _ => ?_) fun i => ?_
  · rw [flushed1, QuantiserBlock.codes_eq]
    refine funext fun (y : S4096x3584.Idx) => ?_
    show codeOf (iblk m c 0 t) (y 0) (y 1) = (fun y : S4096x3584.Idx => codeOf (rows m c) (y 0) (y 1)) (((cfg0.win 1).blk t).view.emb y)
    rw [emb1, iblk_eq]
  · refine ⟨t0_0, flush0_1 _, ?_⟩
    have h := ((cfg0.win 1).blk t0_0).view.emb_mem_set i
    rw [emb1] at h
    exact h

/-! ### The scales -/

theorem emb2 (t : Fin cfg0.N) (y : S4096x28.Idx) : ((cfg0.win 2).blk t).view.emb y = y := by
  obtain ⟨-, -, ⟨e0, e1⟩, -⟩ := index_eq t
  funext a; apply Fin.ext
  match a with
  | ⟨0, _⟩ => show win0_2.index t (0 : Fin 2) * 4096 + 1 * (y 0).val = (y 0).val; omega
  | ⟨1, _⟩ => show win0_2.index t (1 : Fin 2) * 28 + 1 * (y 1).val = (y 1).val; omega

theorem final2 (c : Dev nD) : (dats m 0 c).arrAt 2 cfg0.N = fun y : S4096x28.Idx => scaleOf (rows m c) (y 0) (y 1) := by
  refine (dats m 0 c).arrAt_eq_of_cover 2 (fun y : S4096x28.Idx => scaleOf (rows m c) (y 0) (y 1)) (fun t _ => ?_) fun i => ?_
  · rw [flushed2, QuantiserBlock.scales_eq]
    refine funext fun (y : S4096x28.Idx) => ?_
    show scaleOf (iblk m c 0 t) (y 0) (y 1) = (fun y : S4096x28.Idx => scaleOf (rows m c) (y 0) (y 1)) (((cfg0.win 2).blk t).view.emb y)
    rw [emb2, iblk_eq]
  · refine ⟨t0_0, flush0_2 _, ?_⟩
    have h := ((cfg0.win 2).blk t0_0).view.emb_mem_set i
    rw [emb2] at h
    exact h

/-! ### The transposed codes -/

theorem emb3 (t : Fin cfg0.N) (y : S3584x4096.Idx) : ((cfg0.win 3).blk t).view.emb y = y := by
  obtain ⟨-, -, -, ⟨e0, e1⟩, -⟩ := index_eq t
  funext a; apply Fin.ext
  match a with
  | ⟨0, _⟩ => show win0_3.index t (0 : Fin 2) * 3584 + 1 * (y 0).val = (y 0).val; omega
  | ⟨1, _⟩ => show win0_3.index t (1 : Fin 2) * 4096 + 1 * (y 1).val = (y 1).val; omega

theorem final3 (c : Dev nD) : (dats m 0 c).arrAt 3 cfg0.N = fun y : S3584x4096.Idx => codeTOf (rows m c) (y 1) (y 0) := by
  refine (dats m 0 c).arrAt_eq_of_cover 3 (fun y : S3584x4096.Idx => codeTOf (rows m c) (y 1) (y 0)) (fun t _ => ?_) fun i => ?_
  · rw [flushed3, QuantiserBlock.codesT_eq]
    refine funext fun (y : S3584x4096.Idx) => ?_
    show codeTOf (iblk m c 0 t) (y 1) (y 0) = (fun y : S3584x4096.Idx => codeTOf (rows m c) (y 1) (y 0)) (((cfg0.win 3).blk t).view.emb y)
    rw [emb3, iblk_eq]
  · refine ⟨t0_0, flush0_3 _, ?_⟩
    have h := ((cfg0.win 3).blk t0_0).view.emb_mem_set i
    rw [emb3] at h
    exact h

/-! ### The transposed scales -/

theorem emb4 (t : Fin cfg0.N) (y : S28x4096.Idx) : ((cfg0.win 4).blk t).view.emb y = y := by
  obtain ⟨-, -, -, -, ⟨e0, e1⟩⟩ := index_eq t
  funext a; apply Fin.ext
  match a with
  | ⟨0, _⟩ => show win0_4.index t (0 : Fin 2) * 28 + 1 * (y 0).val = (y 0).val; omega
  | ⟨1, _⟩ => show win0_4.index t (1 : Fin 2) * 4096 + 1 * (y 1).val = (y 1).val; omega

theorem final4 (c : Dev nD) : (dats m 0 c).arrAt 4 cfg0.N = fun y : S28x4096.Idx => scaleOf (rows m c) (y 1) (y 0) := by
  refine (dats m 0 c).arrAt_eq_of_cover 4 (fun y : S28x4096.Idx => scaleOf (rows m c) (y 1) (y 0)) (fun t _ => ?_) fun i => ?_
  · rw [flushed4, QuantiserBlock.scalesT_eq]
    refine funext fun (y : S28x4096.Idx) => ?_
    show scaleOf (iblk m c 0 t) (y 1) (y 0) = (fun y : S28x4096.Idx => scaleOf (rows m c) (y 1) (y 0)) (((cfg0.win 4).blk t).view.emb y)
    rw [emb4, iblk_eq]
  · refine ⟨t0_0, flush0_4 _, ?_⟩
    have h := ((cfg0.win 4).blk t0_0).view.emb_mem_set i
    rw [emb4] at h
    exact h

/-- The run. -/
theorem run : θ_run defs (onTc (τ := τ) (main (F := Bits))) ⟨m, fun _ => 0, ρ⟩ fun r => ∀ c : Dev nD,
      r.2.mem ((c : Thread nD τ).loc main_v1_0) = (fun y : S4096x3584.Idx => codeOf (rows m c) (y 0) (y 1))
      ∧ r.2.mem ((c : Thread nD τ).loc main_v1_1) = (fun y : S4096x28.Idx => scaleOf (rows m c) (y 0) (y 1))
      ∧ r.2.mem ((c : Thread nD τ).loc main_v1_2) = (fun y : S3584x4096.Idx => codeTOf (rows m c) (y 1) (y 0))
      ∧ r.2.mem ((c : Thread nD τ).loc main_v1_3) = (fun y : S28x4096.Idx => scaleOf (rows m c) (y 1) (y 0))
      ∧ r.2.mem ((c : Thread nD τ).loc main_arg0) = m ((c : Thread nD τ).loc main_arg0) :=
  (θ_run defs _ _).mono (fun _ h c => ⟨(h c).1.trans (final1 m c), (h c).2.1.trans (final2 m c), (h c).2.2.1.trans (final3 m c),
    (h c).2.2.2.1.trans (final4 m c), (h c).2.2.2.2⟩) (run_blocks m ρ)

end Cert.Proof.QuantiserValue

end
-- ==== Proof.Quantise.lean ====
/-
  THE EQUALITY at bit patterns: the quantise kernel's four results (Proof/QuantValue.lean) and the reference quantiser's
  (Proof/QuantiserValue.lean) are the same functions of the argument's rows (Proof/QuantSpec.lean).
-/
module

public import proofs.«01_k».proof.Defs
public import proofs.«01_k».proof.Proof.QuantValue
public import proofs.«01_k».proof.Proof.QuantiserValue

@[expose] public section

noncomputable section

namespace Cert.Proof.Quantise

open Idealize.ShloMosaic Idealize.SL.Sem Cert.Proof.QuantValue

/-- `Cert.bitexact_Quant_Quantiser`: from equal arguments both run and end with equal results. -/
theorem bitexact : Cert.bitexact_Quant_Quantiser (hQuant := Cert.Quant.Gen.facts) (hQuantiser := Cert.Quantiser.Gen.facts) := by
  intro m g m' g' _ hargs
  refine ⟨fun c => codesArr (rows m c), fun c => scalesArr (rows m c), fun c => codesTArr (rows m c), fun c => scalesTArr (rows m c),
    QuantValue.run m g, ?_⟩
  refine (θ_run (Cert.Quantiser.defs (F := Bits)) _ _).mono (fun r h c => ?_) (QuantiserValue.run m' g')
  have e : QuantiserValue.rows m' c = rows m c :=
    congrArg (fun x : Vec Bits Cert.Quant.S2x2048x3584 .bf16 => shapeCast Cert.Quant.S4096x3584 x
      Cert.Quant.Gen.facts.shapeCasts_S2x2048x3584_S4096x3584) (hargs c)
  obtain ⟨h1, h2, h3, h4, hk⟩ := h c
  rw [e] at h1 h2 h3 h4
  exact ⟨h1, h2, h3, h4, hk⟩

end Cert.Proof.Quantise

end
-- ==== Proof.lean ====
/- The two calls of an fp8 blockwise linear layer, and what is proved of them: `Cert.Claim`.

   * The matmul call, over the extended reals, computes the blockwise-scaled product its reference
     states, for every value of the codes and scales (`Linear.algebraic`).
   * The quantise call, on bit patterns, writes the codes and scales its reference states, and their
     transposes, for every input (`Quantise.bitexact`).
   * Every program named here ends with its arguments unchanged and every semaphore counter at zero;
     so do the two calls run one after the other, as the version runs them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.Quant.Value
public import proofs.«01_k».proof.Proof.Gen.Quantiser
public import proofs.«01_k».proof.Proof.Gen.Quantiser.Skeleton
public import proofs.«01_k».proof.Proof.Gen.Quantiser.Launch
public import proofs.«01_k».proof.Proof.Gen.Quantiser.Points
public import proofs.«01_k».proof.Proof.Gen.Quantiser.Frame
public import proofs.«01_k».proof.Proof.Gen.Quantiser.Value
public import proofs.«01_k».proof.Proof.Gen.Whole
public import proofs.«01_k».proof.Proof.Gen.Whole.Skeleton
public import proofs.«01_k».proof.Proof.Gen.Whole.Launch
public import proofs.«01_k».proof.Proof.Gen.Whole.Points
public import proofs.«01_k».proof.Proof.Gen.Whole.Frame
public import proofs.«01_k».proof.Proof.Linear
public import proofs.«01_k».proof.Proof.Quantise
public import Idealize.ShloMosaic.Adequacy
public import Idealize.ShloMosaic.Init

@[expose] public section

noncomputable section

namespace Cert.Proof

open Idealize.ShloMosaic Idealize.SL.Sem Cert.Kernel

/-- All the claims: first the facts stated of the six programs, then their frames, then that the
    matmul program is read over the reals with none of its operations rewritten, then the two value
    claims. -/
theorem claim : Cert.Claim :=
  ⟨Cert.Kernel.Gen.facts, Cert.KernelIdeal.Gen.facts, Cert.ReferenceIdeal.Gen.facts,
    Cert.Quant.Gen.facts, Cert.Quantiser.Gen.facts, Cert.Whole.Gen.facts,
    fun m g _ => Cert.Kernel.Gen.frame m g,
    fun m g _ => Cert.KernelIdeal.Gen.frame m g,
    fun m g _ => Cert.ReferenceIdeal.Gen.frame m g,
    fun m g _ => Cert.Quant.Gen.frame m g,
    fun m g _ => Cert.Quantiser.Gen.frame m g,
    fun m g _ => Cert.Whole.Gen.frame m g,
    trivial, Linear.algebraic, Quantise.bitexact⟩

end Cert.Proof

end
